-- ==== Defs.lean ====
def Pre_Kernel [hPre_pi_is_0123_Kernel : Cert.Pre_pi_is_0123_Kernel.Facts] (m : (ℓ : Loc Cert.Kernel.nD Cert.Kernel.τ Cert.Kernel.sig) → Buf (Elt Bits) ℓ) : Prop :=
  ∀ c : Dev Cert.Kernel.nD,
    (Cert.Pre_pi_is_0123_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_0132_Kernel [hPre_pi_is_0132_Kernel : Cert.Pre_pi_is_0132_Kernel.Facts] (m : (ℓ : Loc Cert.Kernel.nD Cert.Kernel.τ Cert.Kernel.sig) → Buf (Elt Bits) ℓ) : Prop :=
  ∀ c : Dev Cert.Kernel.nD,
    (Cert.Pre_pi_is_0132_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_0213_Kernel [hPre_pi_is_0213_Kernel : Cert.Pre_pi_is_0213_Kernel.Facts] (m : (ℓ : Loc Cert.Kernel.nD Cert.Kernel.τ Cert.Kernel.sig) → Buf (Elt Bits) ℓ) : Prop :=
  ∀ c : Dev Cert.Kernel.nD,
    (Cert.Pre_pi_is_0213_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_0231_Kernel [hPre_pi_is_0231_Kernel : Cert.Pre_pi_is_0231_Kernel.Facts] (m : (ℓ : Loc Cert.Kernel.nD Cert.Kernel.τ Cert.Kernel.sig) → Buf (Elt Bits) ℓ) : Prop :=
  ∀ c : Dev Cert.Kernel.nD,
    (Cert.Pre_pi_is_0231_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_0312_Kernel [hPre_pi_is_0312_Kernel : Cert.Pre_pi_is_0312_Kernel.Facts] (m : (ℓ : Loc Cert.Kernel.nD Cert.Kernel.τ Cert.Kernel.sig) → Buf (Elt Bits) ℓ) : Prop :=
  ∀ c : Dev Cert.Kernel.nD,
    (Cert.Pre_pi_is_0312_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_0321_Kernel [hPre_pi_is_0321_Kernel : Cert.Pre_pi_is_0321_Kernel.Facts] (m : (ℓ : Loc Cert.Kernel.nD Cert.Kernel.τ Cert.Kernel.sig) → Buf (Elt Bits) ℓ) : Prop :=
  ∀ c : Dev Cert.Kernel.nD,
    (Cert.Pre_pi_is_0321_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_1023_Kernel [hPre_pi_is_1023_Kernel : Cert.Pre_pi_is_1023_Kernel.Facts] (m : (ℓ : Loc Cert.Kernel.nD Cert.Kernel.τ Cert.Kernel.sig) → Buf (Elt Bits) ℓ) : Prop :=
  ∀ c : Dev Cert.Kernel.nD,
    (Cert.Pre_pi_is_1023_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_1032_Kernel [hPre_pi_is_1032_Kernel : Cert.Pre_pi_is_1032_Kernel.Facts] (m : (ℓ : Loc Cert.Kernel.nD Cert.Kernel.τ Cert.Kernel.sig) → Buf (Elt Bits) ℓ) : Prop :=
  ∀ c : Dev Cert.Kernel.nD,
    (Cert.Pre_pi_is_1032_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_1203_Kernel [hPre_pi_is_1203_Kernel : Cert.Pre_pi_is_1203_Kernel.Facts] (m : (ℓ : Loc Cert.Kernel.nD Cert.Kernel.τ Cert.Kernel.sig) → Buf (Elt Bits) ℓ) : Prop :=
  ∀ c : Dev Cert.Kernel.nD,
    (Cert.Pre_pi_is_1203_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_1230_Kernel [hPre_pi_is_1230_Kernel : Cert.Pre_pi_is_1230_Kernel.Facts] (m : (ℓ : Loc Cert.Kernel.nD Cert.Kernel.τ Cert.Kernel.sig) → Buf (Elt Bits) ℓ) : Prop :=
  ∀ c : Dev Cert.Kernel.nD,
    (Cert.Pre_pi_is_1230_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_1302_Kernel [hPre_pi_is_1302_Kernel : Cert.Pre_pi_is_1302_Kernel.Facts] (m : (ℓ : Loc Cert.Kernel.nD Cert.Kernel.τ Cert.Kernel.sig) → Buf (Elt Bits) ℓ) : Prop :=
  ∀ c : Dev Cert.Kernel.nD,
    (Cert.Pre_pi_is_1302_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_1320_Kernel [hPre_pi_is_1320_Kernel : Cert.Pre_pi_is_1320_Kernel.Facts] (m : (ℓ : Loc Cert.Kernel.nD Cert.Kernel.τ Cert.Kernel.sig) → Buf (Elt Bits) ℓ) : Prop :=
  ∀ c : Dev Cert.Kernel.nD,
    (Cert.Pre_pi_is_1320_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_2013_Kernel [hPre_pi_is_2013_Kernel : Cert.Pre_pi_is_2013_Kernel.Facts] (m : (ℓ : Loc Cert.Kernel.nD Cert.Kernel.τ Cert.Kernel.sig) → Buf (Elt Bits) ℓ) : Prop :=
  ∀ c : Dev Cert.Kernel.nD,
    (Cert.Pre_pi_is_2013_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_2031_Kernel [hPre_pi_is_2031_Kernel : Cert.Pre_pi_is_2031_Kernel.Facts] (m : (ℓ : Loc Cert.Kernel.nD Cert.Kernel.τ Cert.Kernel.sig) → Buf (Elt Bits) ℓ) : Prop :=
  ∀ c : Dev Cert.Kernel.nD,
    (Cert.Pre_pi_is_2031_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_2103_Kernel [hPre_pi_is_2103_Kernel : Cert.Pre_pi_is_2103_Kernel.Facts] (m : (ℓ : Loc Cert.Kernel.nD Cert.Kernel.τ Cert.Kernel.sig) → Buf (Elt Bits) ℓ) : Prop :=
  ∀ c : Dev Cert.Kernel.nD,
    (Cert.Pre_pi_is_2103_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_2130_Kernel [hPre_pi_is_2130_Kernel : Cert.Pre_pi_is_2130_Kernel.Facts] (m : (ℓ : Loc Cert.Kernel.nD Cert.Kernel.τ Cert.Kernel.sig) → Buf (Elt Bits) ℓ) : Prop :=
  ∀ c : Dev Cert.Kernel.nD,
    (Cert.Pre_pi_is_2130_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_2301_Kernel [hPre_pi_is_2301_Kernel : Cert.Pre_pi_is_2301_Kernel.Facts] (m : (ℓ : Loc Cert.Kernel.nD Cert.Kernel.τ Cert.Kernel.sig) → Buf (Elt Bits) ℓ) : Prop :=
  ∀ c : Dev Cert.Kernel.nD,
    (Cert.Pre_pi_is_2301_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_2310_Kernel [hPre_pi_is_2310_Kernel : Cert.Pre_pi_is_2310_Kernel.Facts] (m : (ℓ : Loc Cert.Kernel.nD Cert.Kernel.τ Cert.Kernel.sig) → Buf (Elt Bits) ℓ) : Prop :=
  ∀ c : Dev Cert.Kernel.nD,
    (Cert.Pre_pi_is_2310_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_3012_Kernel [hPre_pi_is_3012_Kernel : Cert.Pre_pi_is_3012_Kernel.Facts] (m : (ℓ : Loc Cert.Kernel.nD Cert.Kernel.τ Cert.Kernel.sig) → Buf (Elt Bits) ℓ) : Prop :=
  ∀ c : Dev Cert.Kernel.nD,
    (Cert.Pre_pi_is_3012_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_3021_Kernel [hPre_pi_is_3021_Kernel : Cert.Pre_pi_is_3021_Kernel.Facts] (m : (ℓ : Loc Cert.Kernel.nD Cert.Kernel.τ Cert.Kernel.sig) → Buf (Elt Bits) ℓ) : Prop :=
  ∀ c : Dev Cert.Kernel.nD,
    (Cert.Pre_pi_is_3021_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_3102_Kernel [hPre_pi_is_3102_Kernel : Cert.Pre_pi_is_3102_Kernel.Facts] (m : (ℓ : Loc Cert.Kernel.nD Cert.Kernel.τ Cert.Kernel.sig) → Buf (Elt Bits) ℓ) : Prop :=
  ∀ c : Dev Cert.Kernel.nD,
    (Cert.Pre_pi_is_3102_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_3120_Kernel [hPre_pi_is_3120_Kernel : Cert.Pre_pi_is_3120_Kernel.Facts] (m : (ℓ : Loc Cert.Kernel.nD Cert.Kernel.τ Cert.Kernel.sig) → Buf (Elt Bits) ℓ) : Prop :=
  ∀ c : Dev Cert.Kernel.nD,
    (Cert.Pre_pi_is_3120_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_3201_Kernel [hPre_pi_is_3201_Kernel : Cert.Pre_pi_is_3201_Kernel.Facts] (m : (ℓ : Loc Cert.Kernel.nD Cert.Kernel.τ Cert.Kernel.sig) → Buf (Elt Bits) ℓ) : Prop :=
  ∀ c : Dev Cert.Kernel.nD,
    (Cert.Pre_pi_is_3201_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_3210_Kernel [hPre_pi_is_3210_Kernel : Cert.Pre_pi_is_3210_Kernel.Facts] (m : (ℓ : Loc Cert.Kernel.nD Cert.Kernel.τ Cert.Kernel.sig) → Buf (Elt Bits) ℓ) : Prop :=
  ∀ c : Dev Cert.Kernel.nD,
    (Cert.Pre_pi_is_3210_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_pi_is_0123_Kernel : Cert.Pre_pi_is_0123_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_0123_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_0132_Kernel [hPre_pi_is_0132_Kernel : Cert.Pre_pi_is_0132_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_0132_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_0213_Kernel [hPre_pi_is_0213_Kernel : Cert.Pre_pi_is_0213_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_0213_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_0231_Kernel [hPre_pi_is_0231_Kernel : Cert.Pre_pi_is_0231_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_0231_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_0312_Kernel [hPre_pi_is_0312_Kernel : Cert.Pre_pi_is_0312_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_0312_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_0321_Kernel [hPre_pi_is_0321_Kernel : Cert.Pre_pi_is_0321_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_0321_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_1023_Kernel [hPre_pi_is_1023_Kernel : Cert.Pre_pi_is_1023_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_1023_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_1032_Kernel [hPre_pi_is_1032_Kernel : Cert.Pre_pi_is_1032_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_1032_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_1203_Kernel [hPre_pi_is_1203_Kernel : Cert.Pre_pi_is_1203_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_1203_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_1230_Kernel [hPre_pi_is_1230_Kernel : Cert.Pre_pi_is_1230_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_1230_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_1302_Kernel [hPre_pi_is_1302_Kernel : Cert.Pre_pi_is_1302_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_1302_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_1320_Kernel [hPre_pi_is_1320_Kernel : Cert.Pre_pi_is_1320_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_1320_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_2013_Kernel [hPre_pi_is_2013_Kernel : Cert.Pre_pi_is_2013_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_2013_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_2031_Kernel [hPre_pi_is_2031_Kernel : Cert.Pre_pi_is_2031_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_2031_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_2103_Kernel [hPre_pi_is_2103_Kernel : Cert.Pre_pi_is_2103_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_2103_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_2130_Kernel [hPre_pi_is_2130_Kernel : Cert.Pre_pi_is_2130_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_2130_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_2301_Kernel [hPre_pi_is_2301_Kernel : Cert.Pre_pi_is_2301_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_2301_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_2310_Kernel [hPre_pi_is_2310_Kernel : Cert.Pre_pi_is_2310_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_2310_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_3012_Kernel [hPre_pi_is_3012_Kernel : Cert.Pre_pi_is_3012_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_3012_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_3021_Kernel [hPre_pi_is_3021_Kernel : Cert.Pre_pi_is_3021_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_3021_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_3102_Kernel [hPre_pi_is_3102_Kernel : Cert.Pre_pi_is_3102_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_3102_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_3120_Kernel [hPre_pi_is_3120_Kernel : Cert.Pre_pi_is_3120_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_3120_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_3201_Kernel [hPre_pi_is_3201_Kernel : Cert.Pre_pi_is_3201_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_3201_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_3210_Kernel [hPre_pi_is_3210_Kernel : Cert.Pre_pi_is_3210_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_3210_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pi_is_0123_ReferenceIdeal [hPre_pi_is_0123_ReferenceIdeal : Cert.Pre_pi_is_0123_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_0123_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_0132_ReferenceIdeal [hPre_pi_is_0132_ReferenceIdeal : Cert.Pre_pi_is_0132_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_0132_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_0213_ReferenceIdeal [hPre_pi_is_0213_ReferenceIdeal : Cert.Pre_pi_is_0213_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_0213_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_0231_ReferenceIdeal [hPre_pi_is_0231_ReferenceIdeal : Cert.Pre_pi_is_0231_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_0231_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_0312_ReferenceIdeal [hPre_pi_is_0312_ReferenceIdeal : Cert.Pre_pi_is_0312_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_0312_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_0321_ReferenceIdeal [hPre_pi_is_0321_ReferenceIdeal : Cert.Pre_pi_is_0321_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_0321_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_1023_ReferenceIdeal [hPre_pi_is_1023_ReferenceIdeal : Cert.Pre_pi_is_1023_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_1023_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_1032_ReferenceIdeal [hPre_pi_is_1032_ReferenceIdeal : Cert.Pre_pi_is_1032_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_1032_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_1203_ReferenceIdeal [hPre_pi_is_1203_ReferenceIdeal : Cert.Pre_pi_is_1203_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_1203_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_1230_ReferenceIdeal [hPre_pi_is_1230_ReferenceIdeal : Cert.Pre_pi_is_1230_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_1230_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_1302_ReferenceIdeal [hPre_pi_is_1302_ReferenceIdeal : Cert.Pre_pi_is_1302_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_1302_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_1320_ReferenceIdeal [hPre_pi_is_1320_ReferenceIdeal : Cert.Pre_pi_is_1320_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_1320_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_2013_ReferenceIdeal [hPre_pi_is_2013_ReferenceIdeal : Cert.Pre_pi_is_2013_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_2013_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_2031_ReferenceIdeal [hPre_pi_is_2031_ReferenceIdeal : Cert.Pre_pi_is_2031_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_2031_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_2103_ReferenceIdeal [hPre_pi_is_2103_ReferenceIdeal : Cert.Pre_pi_is_2103_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_2103_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_2130_ReferenceIdeal [hPre_pi_is_2130_ReferenceIdeal : Cert.Pre_pi_is_2130_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_2130_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_2301_ReferenceIdeal [hPre_pi_is_2301_ReferenceIdeal : Cert.Pre_pi_is_2301_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_2301_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_2310_ReferenceIdeal [hPre_pi_is_2310_ReferenceIdeal : Cert.Pre_pi_is_2310_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_2310_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_3012_ReferenceIdeal [hPre_pi_is_3012_ReferenceIdeal : Cert.Pre_pi_is_3012_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_3012_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_3021_ReferenceIdeal [hPre_pi_is_3021_ReferenceIdeal : Cert.Pre_pi_is_3021_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_3021_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_3102_ReferenceIdeal [hPre_pi_is_3102_ReferenceIdeal : Cert.Pre_pi_is_3102_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_3102_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_3120_ReferenceIdeal [hPre_pi_is_3120_ReferenceIdeal : Cert.Pre_pi_is_3120_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_3120_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_3201_ReferenceIdeal [hPre_pi_is_3201_ReferenceIdeal : Cert.Pre_pi_is_3201_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_3201_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_3210_ReferenceIdeal [hPre_pi_is_3210_ReferenceIdeal : Cert.Pre_pi_is_3210_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_3210_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_pi_is_0123_Kernel : Cert.Pre_pi_is_0123_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_0132_Kernel [hKernel : Cert.Kernel.Facts] [hPre_pi_is_0132_Kernel : Cert.Pre_pi_is_0132_Kernel.Facts] : Prop :=
  ∀ (m : (ℓ : Loc Cert.Kernel.nD Cert.Kernel.τ Cert.Kernel.sig) → Buf (Elt Bits) ℓ) (g : Dev Cert.Kernel.nD → PrngReg), Pre_Kernel_pi_is_0132_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_0213_Kernel [hKernel : Cert.Kernel.Facts] [hPre_pi_is_0213_Kernel : Cert.Pre_pi_is_0213_Kernel.Facts] : Prop :=
  ∀ (m : (ℓ : Loc Cert.Kernel.nD Cert.Kernel.τ Cert.Kernel.sig) → Buf (Elt Bits) ℓ) (g : Dev Cert.Kernel.nD → PrngReg), Pre_Kernel_pi_is_0213_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_0231_Kernel [hKernel : Cert.Kernel.Facts] [hPre_pi_is_0231_Kernel : Cert.Pre_pi_is_0231_Kernel.Facts] : Prop :=
  ∀ (m : (ℓ : Loc Cert.Kernel.nD Cert.Kernel.τ Cert.Kernel.sig) → Buf (Elt Bits) ℓ) (g : Dev Cert.Kernel.nD → PrngReg), Pre_Kernel_pi_is_0231_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_0312_Kernel [hKernel : Cert.Kernel.Facts] [hPre_pi_is_0312_Kernel : Cert.Pre_pi_is_0312_Kernel.Facts] : Prop :=
  ∀ (m : (ℓ : Loc Cert.Kernel.nD Cert.Kernel.τ Cert.Kernel.sig) → Buf (Elt Bits) ℓ) (g : Dev Cert.Kernel.nD → PrngReg), Pre_Kernel_pi_is_0312_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_0321_Kernel [hKernel : Cert.Kernel.Facts] [hPre_pi_is_0321_Kernel : Cert.Pre_pi_is_0321_Kernel.Facts] : Prop :=
  ∀ (m : (ℓ : Loc Cert.Kernel.nD Cert.Kernel.τ Cert.Kernel.sig) → Buf (Elt Bits) ℓ) (g : Dev Cert.Kernel.nD → PrngReg), Pre_Kernel_pi_is_0321_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_1023_Kernel [hKernel : Cert.Kernel.Facts] [hPre_pi_is_1023_Kernel : Cert.Pre_pi_is_1023_Kernel.Facts] : Prop :=
  ∀ (m : (ℓ : Loc Cert.Kernel.nD Cert.Kernel.τ Cert.Kernel.sig) → Buf (Elt Bits) ℓ) (g : Dev Cert.Kernel.nD → PrngReg), Pre_Kernel_pi_is_1023_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_1032_Kernel [hKernel : Cert.Kernel.Facts] [hPre_pi_is_1032_Kernel : Cert.Pre_pi_is_1032_Kernel.Facts] : Prop :=
  ∀ (m : (ℓ : Loc Cert.Kernel.nD Cert.Kernel.τ Cert.Kernel.sig) → Buf (Elt Bits) ℓ) (g : Dev Cert.Kernel.nD → PrngReg), Pre_Kernel_pi_is_1032_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_1203_Kernel [hKernel : Cert.Kernel.Facts] [hPre_pi_is_1203_Kernel : Cert.Pre_pi_is_1203_Kernel.Facts] : Prop :=
  ∀ (m : (ℓ : Loc Cert.Kernel.nD Cert.Kernel.τ Cert.Kernel.sig) → Buf (Elt Bits) ℓ) (g : Dev Cert.Kernel.nD → PrngReg), Pre_Kernel_pi_is_1203_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_1230_Kernel [hKernel : Cert.Kernel.Facts] [hPre_pi_is_1230_Kernel : Cert.Pre_pi_is_1230_Kernel.Facts] : Prop :=
  ∀ (m : (ℓ : Loc Cert.Kernel.nD Cert.Kernel.τ Cert.Kernel.sig) → Buf (Elt Bits) ℓ) (g : Dev Cert.Kernel.nD → PrngReg), Pre_Kernel_pi_is_1230_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_1302_Kernel [hKernel : Cert.Kernel.Facts] [hPre_pi_is_1302_Kernel : Cert.Pre_pi_is_1302_Kernel.Facts] : Prop :=
  ∀ (m : (ℓ : Loc Cert.Kernel.nD Cert.Kernel.τ Cert.Kernel.sig) → Buf (Elt Bits) ℓ) (g : Dev Cert.Kernel.nD → PrngReg), Pre_Kernel_pi_is_1302_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_1320_Kernel [hKernel : Cert.Kernel.Facts] [hPre_pi_is_1320_Kernel : Cert.Pre_pi_is_1320_Kernel.Facts] : Prop :=
  ∀ (m : (ℓ : Loc Cert.Kernel.nD Cert.Kernel.τ Cert.Kernel.sig) → Buf (Elt Bits) ℓ) (g : Dev Cert.Kernel.nD → PrngReg), Pre_Kernel_pi_is_1320_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_2013_Kernel [hKernel : Cert.Kernel.Facts] [hPre_pi_is_2013_Kernel : Cert.Pre_pi_is_2013_Kernel.Facts] : Prop :=
  ∀ (m : (ℓ : Loc Cert.Kernel.nD Cert.Kernel.τ Cert.Kernel.sig) → Buf (Elt Bits) ℓ) (g : Dev Cert.Kernel.nD → PrngReg), Pre_Kernel_pi_is_2013_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_2031_Kernel [hKernel : Cert.Kernel.Facts] [hPre_pi_is_2031_Kernel : Cert.Pre_pi_is_2031_Kernel.Facts] : Prop :=
  ∀ (m : (ℓ : Loc Cert.Kernel.nD Cert.Kernel.τ Cert.Kernel.sig) → Buf (Elt Bits) ℓ) (g : Dev Cert.Kernel.nD → PrngReg), Pre_Kernel_pi_is_2031_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_2103_Kernel [hKernel : Cert.Kernel.Facts] [hPre_pi_is_2103_Kernel : Cert.Pre_pi_is_2103_Kernel.Facts] : Prop :=
  ∀ (m : (ℓ : Loc Cert.Kernel.nD Cert.Kernel.τ Cert.Kernel.sig) → Buf (Elt Bits) ℓ) (g : Dev Cert.Kernel.nD → PrngReg), Pre_Kernel_pi_is_2103_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_2130_Kernel [hKernel : Cert.Kernel.Facts] [hPre_pi_is_2130_Kernel : Cert.Pre_pi_is_2130_Kernel.Facts] : Prop :=
  ∀ (m : (ℓ : Loc Cert.Kernel.nD Cert.Kernel.τ Cert.Kernel.sig) → Buf (Elt Bits) ℓ) (g : Dev Cert.Kernel.nD → PrngReg), Pre_Kernel_pi_is_2130_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_2301_Kernel [hKernel : Cert.Kernel.Facts] [hPre_pi_is_2301_Kernel : Cert.Pre_pi_is_2301_Kernel.Facts] : Prop :=
  ∀ (m : (ℓ : Loc Cert.Kernel.nD Cert.Kernel.τ Cert.Kernel.sig) → Buf (Elt Bits) ℓ) (g : Dev Cert.Kernel.nD → PrngReg), Pre_Kernel_pi_is_2301_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_2310_Kernel [hKernel : Cert.Kernel.Facts] [hPre_pi_is_2310_Kernel : Cert.Pre_pi_is_2310_Kernel.Facts] : Prop :=
  ∀ (m : (ℓ : Loc Cert.Kernel.nD Cert.Kernel.τ Cert.Kernel.sig) → Buf (Elt Bits) ℓ) (g : Dev Cert.Kernel.nD → PrngReg), Pre_Kernel_pi_is_2310_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_3012_Kernel [hKernel : Cert.Kernel.Facts] [hPre_pi_is_3012_Kernel : Cert.Pre_pi_is_3012_Kernel.Facts] : Prop :=
  ∀ (m : (ℓ : Loc Cert.Kernel.nD Cert.Kernel.τ Cert.Kernel.sig) → Buf (Elt Bits) ℓ) (g : Dev Cert.Kernel.nD → PrngReg), Pre_Kernel_pi_is_3012_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_3021_Kernel [hKernel : Cert.Kernel.Facts] [hPre_pi_is_3021_Kernel : Cert.Pre_pi_is_3021_Kernel.Facts] : Prop :=
  ∀ (m : (ℓ : Loc Cert.Kernel.nD Cert.Kernel.τ Cert.Kernel.sig) → Buf (Elt Bits) ℓ) (g : Dev Cert.Kernel.nD → PrngReg), Pre_Kernel_pi_is_3021_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_3102_Kernel [hKernel : Cert.Kernel.Facts] [hPre_pi_is_3102_Kernel : Cert.Pre_pi_is_3102_Kernel.Facts] : Prop :=
  ∀ (m : (ℓ : Loc Cert.Kernel.nD Cert.Kernel.τ Cert.Kernel.sig) → Buf (Elt Bits) ℓ) (g : Dev Cert.Kernel.nD → PrngReg), Pre_Kernel_pi_is_3102_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_3120_Kernel [hKernel : Cert.Kernel.Facts] [hPre_pi_is_3120_Kernel : Cert.Pre_pi_is_3120_Kernel.Facts] : Prop :=
  ∀ (m : (ℓ : Loc Cert.Kernel.nD Cert.Kernel.τ Cert.Kernel.sig) → Buf (Elt Bits) ℓ) (g : Dev Cert.Kernel.nD → PrngReg), Pre_Kernel_pi_is_3120_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_3201_Kernel [hKernel : Cert.Kernel.Facts] [hPre_pi_is_3201_Kernel : Cert.Pre_pi_is_3201_Kernel.Facts] : Prop :=
  ∀ (m : (ℓ : Loc Cert.Kernel.nD Cert.Kernel.τ Cert.Kernel.sig) → Buf (Elt Bits) ℓ) (g : Dev Cert.Kernel.nD → PrngReg), Pre_Kernel_pi_is_3201_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_3210_Kernel [hKernel : Cert.Kernel.Facts] [hPre_pi_is_3210_Kernel : Cert.Pre_pi_is_3210_Kernel.Facts] : Prop :=
  ∀ (m : (ℓ : Loc Cert.Kernel.nD Cert.Kernel.τ Cert.Kernel.sig) → Buf (Elt Bits) ℓ) (g : Dev Cert.Kernel.nD → PrngReg), Pre_Kernel_pi_is_3210_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_pi_is_0123_Kernel : Cert.Pre_pi_is_0123_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_0132_Kernel [hKernelIdeal : Cert.KernelIdeal.Facts] [hPre_pi_is_0132_Kernel : Cert.Pre_pi_is_0132_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_0132_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_0213_Kernel [hKernelIdeal : Cert.KernelIdeal.Facts] [hPre_pi_is_0213_Kernel : Cert.Pre_pi_is_0213_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_0213_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_0231_Kernel [hKernelIdeal : Cert.KernelIdeal.Facts] [hPre_pi_is_0231_Kernel : Cert.Pre_pi_is_0231_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_0231_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_0312_Kernel [hKernelIdeal : Cert.KernelIdeal.Facts] [hPre_pi_is_0312_Kernel : Cert.Pre_pi_is_0312_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_0312_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_0321_Kernel [hKernelIdeal : Cert.KernelIdeal.Facts] [hPre_pi_is_0321_Kernel : Cert.Pre_pi_is_0321_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_0321_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_1023_Kernel [hKernelIdeal : Cert.KernelIdeal.Facts] [hPre_pi_is_1023_Kernel : Cert.Pre_pi_is_1023_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_1023_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_1032_Kernel [hKernelIdeal : Cert.KernelIdeal.Facts] [hPre_pi_is_1032_Kernel : Cert.Pre_pi_is_1032_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_1032_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_1203_Kernel [hKernelIdeal : Cert.KernelIdeal.Facts] [hPre_pi_is_1203_Kernel : Cert.Pre_pi_is_1203_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_1203_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_1230_Kernel [hKernelIdeal : Cert.KernelIdeal.Facts] [hPre_pi_is_1230_Kernel : Cert.Pre_pi_is_1230_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_1230_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_1302_Kernel [hKernelIdeal : Cert.KernelIdeal.Facts] [hPre_pi_is_1302_Kernel : Cert.Pre_pi_is_1302_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_1302_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_1320_Kernel [hKernelIdeal : Cert.KernelIdeal.Facts] [hPre_pi_is_1320_Kernel : Cert.Pre_pi_is_1320_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_1320_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_2013_Kernel [hKernelIdeal : Cert.KernelIdeal.Facts] [hPre_pi_is_2013_Kernel : Cert.Pre_pi_is_2013_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_2013_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_2031_Kernel [hKernelIdeal : Cert.KernelIdeal.Facts] [hPre_pi_is_2031_Kernel : Cert.Pre_pi_is_2031_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_2031_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_2103_Kernel [hKernelIdeal : Cert.KernelIdeal.Facts] [hPre_pi_is_2103_Kernel : Cert.Pre_pi_is_2103_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_2103_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_2130_Kernel [hKernelIdeal : Cert.KernelIdeal.Facts] [hPre_pi_is_2130_Kernel : Cert.Pre_pi_is_2130_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_2130_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_2301_Kernel [hKernelIdeal : Cert.KernelIdeal.Facts] [hPre_pi_is_2301_Kernel : Cert.Pre_pi_is_2301_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_2301_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_2310_Kernel [hKernelIdeal : Cert.KernelIdeal.Facts] [hPre_pi_is_2310_Kernel : Cert.Pre_pi_is_2310_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_2310_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_3012_Kernel [hKernelIdeal : Cert.KernelIdeal.Facts] [hPre_pi_is_3012_Kernel : Cert.Pre_pi_is_3012_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_3012_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_3021_Kernel [hKernelIdeal : Cert.KernelIdeal.Facts] [hPre_pi_is_3021_Kernel : Cert.Pre_pi_is_3021_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_3021_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_3102_Kernel [hKernelIdeal : Cert.KernelIdeal.Facts] [hPre_pi_is_3102_Kernel : Cert.Pre_pi_is_3102_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_3102_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_3120_Kernel [hKernelIdeal : Cert.KernelIdeal.Facts] [hPre_pi_is_3120_Kernel : Cert.Pre_pi_is_3120_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_3120_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_3201_Kernel [hKernelIdeal : Cert.KernelIdeal.Facts] [hPre_pi_is_3201_Kernel : Cert.Pre_pi_is_3201_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_3201_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_3210_Kernel [hKernelIdeal : Cert.KernelIdeal.Facts] [hPre_pi_is_3210_Kernel : Cert.Pre_pi_is_3210_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_3210_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_0123_ReferenceIdeal [hReferenceIdeal : Cert.ReferenceIdeal.Facts] [hPre_pi_is_0123_ReferenceIdeal : Cert.Pre_pi_is_0123_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_0123_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_0132_ReferenceIdeal [hReferenceIdeal : Cert.ReferenceIdeal.Facts] [hPre_pi_is_0132_ReferenceIdeal : Cert.Pre_pi_is_0132_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_0132_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_0213_ReferenceIdeal [hReferenceIdeal : Cert.ReferenceIdeal.Facts] [hPre_pi_is_0213_ReferenceIdeal : Cert.Pre_pi_is_0213_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_0213_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_0231_ReferenceIdeal [hReferenceIdeal : Cert.ReferenceIdeal.Facts] [hPre_pi_is_0231_ReferenceIdeal : Cert.Pre_pi_is_0231_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_0231_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_0312_ReferenceIdeal [hReferenceIdeal : Cert.ReferenceIdeal.Facts] [hPre_pi_is_0312_ReferenceIdeal : Cert.Pre_pi_is_0312_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_0312_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_0321_ReferenceIdeal [hReferenceIdeal : Cert.ReferenceIdeal.Facts] [hPre_pi_is_0321_ReferenceIdeal : Cert.Pre_pi_is_0321_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_0321_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_1023_ReferenceIdeal [hReferenceIdeal : Cert.ReferenceIdeal.Facts] [hPre_pi_is_1023_ReferenceIdeal : Cert.Pre_pi_is_1023_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_1023_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_1032_ReferenceIdeal [hReferenceIdeal : Cert.ReferenceIdeal.Facts] [hPre_pi_is_1032_ReferenceIdeal : Cert.Pre_pi_is_1032_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_1032_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_1203_ReferenceIdeal [hReferenceIdeal : Cert.ReferenceIdeal.Facts] [hPre_pi_is_1203_ReferenceIdeal : Cert.Pre_pi_is_1203_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_1203_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_1230_ReferenceIdeal [hReferenceIdeal : Cert.ReferenceIdeal.Facts] [hPre_pi_is_1230_ReferenceIdeal : Cert.Pre_pi_is_1230_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_1230_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_1302_ReferenceIdeal [hReferenceIdeal : Cert.ReferenceIdeal.Facts] [hPre_pi_is_1302_ReferenceIdeal : Cert.Pre_pi_is_1302_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_1302_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_1320_ReferenceIdeal [hReferenceIdeal : Cert.ReferenceIdeal.Facts] [hPre_pi_is_1320_ReferenceIdeal : Cert.Pre_pi_is_1320_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_1320_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_2013_ReferenceIdeal [hReferenceIdeal : Cert.ReferenceIdeal.Facts] [hPre_pi_is_2013_ReferenceIdeal : Cert.Pre_pi_is_2013_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_2013_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_2031_ReferenceIdeal [hReferenceIdeal : Cert.ReferenceIdeal.Facts] [hPre_pi_is_2031_ReferenceIdeal : Cert.Pre_pi_is_2031_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_2031_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_2103_ReferenceIdeal [hReferenceIdeal : Cert.ReferenceIdeal.Facts] [hPre_pi_is_2103_ReferenceIdeal : Cert.Pre_pi_is_2103_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_2103_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_2130_ReferenceIdeal [hReferenceIdeal : Cert.ReferenceIdeal.Facts] [hPre_pi_is_2130_ReferenceIdeal : Cert.Pre_pi_is_2130_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_2130_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_2301_ReferenceIdeal [hReferenceIdeal : Cert.ReferenceIdeal.Facts] [hPre_pi_is_2301_ReferenceIdeal : Cert.Pre_pi_is_2301_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_2301_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_2310_ReferenceIdeal [hReferenceIdeal : Cert.ReferenceIdeal.Facts] [hPre_pi_is_2310_ReferenceIdeal : Cert.Pre_pi_is_2310_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_2310_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_3012_ReferenceIdeal [hReferenceIdeal : Cert.ReferenceIdeal.Facts] [hPre_pi_is_3012_ReferenceIdeal : Cert.Pre_pi_is_3012_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_3012_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_3021_ReferenceIdeal [hReferenceIdeal : Cert.ReferenceIdeal.Facts] [hPre_pi_is_3021_ReferenceIdeal : Cert.Pre_pi_is_3021_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_3021_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_3102_ReferenceIdeal [hReferenceIdeal : Cert.ReferenceIdeal.Facts] [hPre_pi_is_3102_ReferenceIdeal : Cert.Pre_pi_is_3102_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_3102_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_3120_ReferenceIdeal [hReferenceIdeal : Cert.ReferenceIdeal.Facts] [hPre_pi_is_3120_ReferenceIdeal : Cert.Pre_pi_is_3120_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_3120_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_3201_ReferenceIdeal [hReferenceIdeal : Cert.ReferenceIdeal.Facts] [hPre_pi_is_3201_ReferenceIdeal : Cert.Pre_pi_is_3201_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_3201_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_3210_ReferenceIdeal [hReferenceIdeal : Cert.ReferenceIdeal.Facts] [hPre_pi_is_3210_ReferenceIdeal : Cert.Pre_pi_is_3210_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_3210_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_pi_is_0123_Kernel : Cert.Pre_pi_is_0123_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 256, 256]⟩ ⟨3, ![4, 256, 256]⟩ (Layout.meshBlock [2, 4, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 256, 256]⟩ ⟨3, ![4, 256, 256]⟩ (Layout.meshBlock [2, 4, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_0132_Kernel [hKernelIdeal : Cert.KernelIdeal.Facts] [hReferenceIdeal : Cert.ReferenceIdeal.Facts] [hPre_pi_is_0132_Kernel : Cert.Pre_pi_is_0132_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_0132_Kernel m →
    (∀ c : Dev Cert.KernelIdeal.nD,
      m ((c.tc : Thread Cert.KernelIdeal.nD Cert.KernelIdeal.τ).loc Cert.KernelIdeal.main_arg0) = Layout.blockN ⟨3, ![1, 256, 256]⟩ ⟨3, ![4, 256, 256]⟩ (Layout.meshBlock [2, 4, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 256, 256]⟩ ⟨3, ![4, 256, 256]⟩ (Layout.meshBlock [2, 4, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_0213_Kernel [hKernelIdeal : Cert.KernelIdeal.Facts] [hReferenceIdeal : Cert.ReferenceIdeal.Facts] [hPre_pi_is_0213_Kernel : Cert.Pre_pi_is_0213_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_0213_Kernel m →
    (∀ c : Dev Cert.KernelIdeal.nD,
      m ((c.tc : Thread Cert.KernelIdeal.nD Cert.KernelIdeal.τ).loc Cert.KernelIdeal.main_arg0) = Layout.blockN ⟨3, ![1, 256, 256]⟩ ⟨3, ![4, 256, 256]⟩ (Layout.meshBlock [2, 4, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 256, 256]⟩ ⟨3, ![4, 256, 256]⟩ (Layout.meshBlock [2, 4, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_0231_Kernel [hKernelIdeal : Cert.KernelIdeal.Facts] [hReferenceIdeal : Cert.ReferenceIdeal.Facts] [hPre_pi_is_0231_Kernel : Cert.Pre_pi_is_0231_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_0231_Kernel m →
    (∀ c : Dev Cert.KernelIdeal.nD,
      m ((c.tc : Thread Cert.KernelIdeal.nD Cert.KernelIdeal.τ).loc Cert.KernelIdeal.main_arg0) = Layout.blockN ⟨3, ![1, 256, 256]⟩ ⟨3, ![4, 256, 256]⟩ (Layout.meshBlock [2, 4, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 256, 256]⟩ ⟨3, ![4, 256, 256]⟩ (Layout.meshBlock [2, 4, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_0312_Kernel [hKernelIdeal : Cert.KernelIdeal.Facts] [hReferenceIdeal : Cert.ReferenceIdeal.Facts] [hPre_pi_is_0312_Kernel : Cert.Pre_pi_is_0312_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_0312_Kernel m →
    (∀ c : Dev Cert.KernelIdeal.nD,
      m ((c.tc : Thread Cert.KernelIdeal.nD Cert.KernelIdeal.τ).loc Cert.KernelIdeal.main_arg0) = Layout.blockN ⟨3, ![1, 256, 256]⟩ ⟨3, ![4, 256, 256]⟩ (Layout.meshBlock [2, 4, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 256, 256]⟩ ⟨3, ![4, 256, 256]⟩ (Layout.meshBlock [2, 4, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_0321_Kernel [hKernelIdeal : Cert.KernelIdeal.Facts] [hReferenceIdeal : Cert.ReferenceIdeal.Facts] [hPre_pi_is_0321_Kernel : Cert.Pre_pi_is_0321_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_0321_Kernel m →
    (∀ c : Dev Cert.KernelIdeal.nD,
      m ((c.tc : Thread Cert.KernelIdeal.nD Cert.KernelIdeal.τ).loc Cert.KernelIdeal.main_arg0) = Layout.blockN ⟨3, ![1, 256, 256]⟩ ⟨3, ![4, 256, 256]⟩ (Layout.meshBlock [2, 4, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 256, 256]⟩ ⟨3, ![4, 256, 256]⟩ (Layout.meshBlock [2, 4, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_1023_Kernel [hKernelIdeal : Cert.KernelIdeal.Facts] [hReferenceIdeal : Cert.ReferenceIdeal.Facts] [hPre_pi_is_1023_Kernel : Cert.Pre_pi_is_1023_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_1023_Kernel m →
    (∀ c : Dev Cert.KernelIdeal.nD,
      m ((c.tc : Thread Cert.KernelIdeal.nD Cert.KernelIdeal.τ).loc Cert.KernelIdeal.main_arg0) = Layout.blockN ⟨3, ![1, 256, 256]⟩ ⟨3, ![4, 256, 256]⟩ (Layout.meshBlock [2, 4, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 256, 256]⟩ ⟨3, ![4, 256, 256]⟩ (Layout.meshBlock [2, 4, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_1032_Kernel [hKernelIdeal : Cert.KernelIdeal.Facts] [hReferenceIdeal : Cert.ReferenceIdeal.Facts] [hPre_pi_is_1032_Kernel : Cert.Pre_pi_is_1032_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_1032_Kernel m →
    (∀ c : Dev Cert.KernelIdeal.nD,
      m ((c.tc : Thread Cert.KernelIdeal.nD Cert.KernelIdeal.τ).loc Cert.KernelIdeal.main_arg0) = Layout.blockN ⟨3, ![1, 256, 256]⟩ ⟨3, ![4, 256, 256]⟩ (Layout.meshBlock [2, 4, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 256, 256]⟩ ⟨3, ![4, 256, 256]⟩ (Layout.meshBlock [2, 4, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_1203_Kernel [hKernelIdeal : Cert.KernelIdeal.Facts] [hReferenceIdeal : Cert.ReferenceIdeal.Facts] [hPre_pi_is_1203_Kernel : Cert.Pre_pi_is_1203_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_1203_Kernel m →
    (∀ c : Dev Cert.KernelIdeal.nD,
      m ((c.tc : Thread Cert.KernelIdeal.nD Cert.KernelIdeal.τ).loc Cert.KernelIdeal.main_arg0) = Layout.blockN ⟨3, ![1, 256, 256]⟩ ⟨3, ![4, 256, 256]⟩ (Layout.meshBlock [2, 4, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 256, 256]⟩ ⟨3, ![4, 256, 256]⟩ (Layout.meshBlock [2, 4, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_1230_Kernel [hKernelIdeal : Cert.KernelIdeal.Facts] [hReferenceIdeal : Cert.ReferenceIdeal.Facts] [hPre_pi_is_1230_Kernel : Cert.Pre_pi_is_1230_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_1230_Kernel m →
    (∀ c : Dev Cert.KernelIdeal.nD,
      m ((c.tc : Thread Cert.KernelIdeal.nD Cert.KernelIdeal.τ).loc Cert.KernelIdeal.main_arg0) = Layout.blockN ⟨3, ![1, 256, 256]⟩ ⟨3, ![4, 256, 256]⟩ (Layout.meshBlock [2, 4, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 256, 256]⟩ ⟨3, ![4, 256, 256]⟩ (Layout.meshBlock [2, 4, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_1302_Kernel [hKernelIdeal : Cert.KernelIdeal.Facts] [hReferenceIdeal : Cert.ReferenceIdeal.Facts] [hPre_pi_is_1302_Kernel : Cert.Pre_pi_is_1302_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_1302_Kernel m →
    (∀ c : Dev Cert.KernelIdeal.nD,
      m ((c.tc : Thread Cert.KernelIdeal.nD Cert.KernelIdeal.τ).loc Cert.KernelIdeal.main_arg0) = Layout.blockN ⟨3, ![1, 256, 256]⟩ ⟨3, ![4, 256, 256]⟩ (Layout.meshBlock [2, 4, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 256, 256]⟩ ⟨3, ![4, 256, 256]⟩ (Layout.meshBlock [2, 4, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_1320_Kernel [hKernelIdeal : Cert.KernelIdeal.Facts] [hReferenceIdeal : Cert.ReferenceIdeal.Facts] [hPre_pi_is_1320_Kernel : Cert.Pre_pi_is_1320_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_1320_Kernel m →
    (∀ c : Dev Cert.KernelIdeal.nD,
      m ((c.tc : Thread Cert.KernelIdeal.nD Cert.KernelIdeal.τ).loc Cert.KernelIdeal.main_arg0) = Layout.blockN ⟨3, ![1, 256, 256]⟩ ⟨3, ![4, 256, 256]⟩ (Layout.meshBlock [2, 4, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 256, 256]⟩ ⟨3, ![4, 256, 256]⟩ (Layout.meshBlock [2, 4, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_2013_Kernel [hKernelIdeal : Cert.KernelIdeal.Facts] [hReferenceIdeal : Cert.ReferenceIdeal.Facts] [hPre_pi_is_2013_Kernel : Cert.Pre_pi_is_2013_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_2013_Kernel m →
    (∀ c : Dev Cert.KernelIdeal.nD,
      m ((c.tc : Thread Cert.KernelIdeal.nD Cert.KernelIdeal.τ).loc Cert.KernelIdeal.main_arg0) = Layout.blockN ⟨3, ![1, 256, 256]⟩ ⟨3, ![4, 256, 256]⟩ (Layout.meshBlock [2, 4, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 256, 256]⟩ ⟨3, ![4, 256, 256]⟩ (Layout.meshBlock [2, 4, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_2031_Kernel [hKernelIdeal : Cert.KernelIdeal.Facts] [hReferenceIdeal : Cert.ReferenceIdeal.Facts] [hPre_pi_is_2031_Kernel : Cert.Pre_pi_is_2031_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_2031_Kernel m →
    (∀ c : Dev Cert.KernelIdeal.nD,
      m ((c.tc : Thread Cert.KernelIdeal.nD Cert.KernelIdeal.τ).loc Cert.KernelIdeal.main_arg0) = Layout.blockN ⟨3, ![1, 256, 256]⟩ ⟨3, ![4, 256, 256]⟩ (Layout.meshBlock [2, 4, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 256, 256]⟩ ⟨3, ![4, 256, 256]⟩ (Layout.meshBlock [2, 4, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_2103_Kernel [hKernelIdeal : Cert.KernelIdeal.Facts] [hReferenceIdeal : Cert.ReferenceIdeal.Facts] [hPre_pi_is_2103_Kernel : Cert.Pre_pi_is_2103_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_2103_Kernel m →
    (∀ c : Dev Cert.KernelIdeal.nD,
      m ((c.tc : Thread Cert.KernelIdeal.nD Cert.KernelIdeal.τ).loc Cert.KernelIdeal.main_arg0) = Layout.blockN ⟨3, ![1, 256, 256]⟩ ⟨3, ![4, 256, 256]⟩ (Layout.meshBlock [2, 4, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 256, 256]⟩ ⟨3, ![4, 256, 256]⟩ (Layout.meshBlock [2, 4, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_2130_Kernel [hKernelIdeal : Cert.KernelIdeal.Facts] [hReferenceIdeal : Cert.ReferenceIdeal.Facts] [hPre_pi_is_2130_Kernel : Cert.Pre_pi_is_2130_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_2130_Kernel m →
    (∀ c : Dev Cert.KernelIdeal.nD,
      m ((c.tc : Thread Cert.KernelIdeal.nD Cert.KernelIdeal.τ).loc Cert.KernelIdeal.main_arg0) = Layout.blockN ⟨3, ![1, 256, 256]⟩ ⟨3, ![4, 256, 256]⟩ (Layout.meshBlock [2, 4, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 256, 256]⟩ ⟨3, ![4, 256, 256]⟩ (Layout.meshBlock [2, 4, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_2301_Kernel [hKernelIdeal : Cert.KernelIdeal.Facts] [hReferenceIdeal : Cert.ReferenceIdeal.Facts] [hPre_pi_is_2301_Kernel : Cert.Pre_pi_is_2301_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_2301_Kernel m →
    (∀ c : Dev Cert.KernelIdeal.nD,
      m ((c.tc : Thread Cert.KernelIdeal.nD Cert.KernelIdeal.τ).loc Cert.KernelIdeal.main_arg0) = Layout.blockN ⟨3, ![1, 256, 256]⟩ ⟨3, ![4, 256, 256]⟩ (Layout.meshBlock [2, 4, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 256, 256]⟩ ⟨3, ![4, 256, 256]⟩ (Layout.meshBlock [2, 4, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_2310_Kernel [hKernelIdeal : Cert.KernelIdeal.Facts] [hReferenceIdeal : Cert.ReferenceIdeal.Facts] [hPre_pi_is_2310_Kernel : Cert.Pre_pi_is_2310_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_2310_Kernel m →
    (∀ c : Dev Cert.KernelIdeal.nD,
      m ((c.tc : Thread Cert.KernelIdeal.nD Cert.KernelIdeal.τ).loc Cert.KernelIdeal.main_arg0) = Layout.blockN ⟨3, ![1, 256, 256]⟩ ⟨3, ![4, 256, 256]⟩ (Layout.meshBlock [2, 4, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 256, 256]⟩ ⟨3, ![4, 256, 256]⟩ (Layout.meshBlock [2, 4, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_3012_Kernel [hKernelIdeal : Cert.KernelIdeal.Facts] [hReferenceIdeal : Cert.ReferenceIdeal.Facts] [hPre_pi_is_3012_Kernel : Cert.Pre_pi_is_3012_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_3012_Kernel m →
    (∀ c : Dev Cert.KernelIdeal.nD,
      m ((c.tc : Thread Cert.KernelIdeal.nD Cert.KernelIdeal.τ).loc Cert.KernelIdeal.main_arg0) = Layout.blockN ⟨3, ![1, 256, 256]⟩ ⟨3, ![4, 256, 256]⟩ (Layout.meshBlock [2, 4, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 256, 256]⟩ ⟨3, ![4, 256, 256]⟩ (Layout.meshBlock [2, 4, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_3021_Kernel [hKernelIdeal : Cert.KernelIdeal.Facts] [hReferenceIdeal : Cert.ReferenceIdeal.Facts] [hPre_pi_is_3021_Kernel : Cert.Pre_pi_is_3021_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_3021_Kernel m →
    (∀ c : Dev Cert.KernelIdeal.nD,
      m ((c.tc : Thread Cert.KernelIdeal.nD Cert.KernelIdeal.τ).loc Cert.KernelIdeal.main_arg0) = Layout.blockN ⟨3, ![1, 256, 256]⟩ ⟨3, ![4, 256, 256]⟩ (Layout.meshBlock [2, 4, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 256, 256]⟩ ⟨3, ![4, 256, 256]⟩ (Layout.meshBlock [2, 4, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_3102_Kernel [hKernelIdeal : Cert.KernelIdeal.Facts] [hReferenceIdeal : Cert.ReferenceIdeal.Facts] [hPre_pi_is_3102_Kernel : Cert.Pre_pi_is_3102_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_3102_Kernel m →
    (∀ c : Dev Cert.KernelIdeal.nD,
      m ((c.tc : Thread Cert.KernelIdeal.nD Cert.KernelIdeal.τ).loc Cert.KernelIdeal.main_arg0) = Layout.blockN ⟨3, ![1, 256, 256]⟩ ⟨3, ![4, 256, 256]⟩ (Layout.meshBlock [2, 4, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 256, 256]⟩ ⟨3, ![4, 256, 256]⟩ (Layout.meshBlock [2, 4, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_3120_Kernel [hKernelIdeal : Cert.KernelIdeal.Facts] [hReferenceIdeal : Cert.ReferenceIdeal.Facts] [hPre_pi_is_3120_Kernel : Cert.Pre_pi_is_3120_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_3120_Kernel m →
    (∀ c : Dev Cert.KernelIdeal.nD,
      m ((c.tc : Thread Cert.KernelIdeal.nD Cert.KernelIdeal.τ).loc Cert.KernelIdeal.main_arg0) = Layout.blockN ⟨3, ![1, 256, 256]⟩ ⟨3, ![4, 256, 256]⟩ (Layout.meshBlock [2, 4, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 256, 256]⟩ ⟨3, ![4, 256, 256]⟩ (Layout.meshBlock [2, 4, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_3201_Kernel [hKernelIdeal : Cert.KernelIdeal.Facts] [hReferenceIdeal : Cert.ReferenceIdeal.Facts] [hPre_pi_is_3201_Kernel : Cert.Pre_pi_is_3201_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_3201_Kernel m →
    (∀ c : Dev Cert.KernelIdeal.nD,
      m ((c.tc : Thread Cert.KernelIdeal.nD Cert.KernelIdeal.τ).loc Cert.KernelIdeal.main_arg0) = Layout.blockN ⟨3, ![1, 256, 256]⟩ ⟨3, ![4, 256, 256]⟩ (Layout.meshBlock [2, 4, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 256, 256]⟩ ⟨3, ![4, 256, 256]⟩ (Layout.meshBlock [2, 4, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_3210_Kernel [hKernelIdeal : Cert.KernelIdeal.Facts] [hReferenceIdeal : Cert.ReferenceIdeal.Facts] [hPre_pi_is_3210_Kernel : Cert.Pre_pi_is_3210_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_3210_Kernel m →
    (∀ c : Dev Cert.KernelIdeal.nD,
      m ((c.tc : Thread Cert.KernelIdeal.nD Cert.KernelIdeal.τ).loc Cert.KernelIdeal.main_arg0) = Layout.blockN ⟨3, ![1, 256, 256]⟩ ⟨3, ![4, 256, 256]⟩ (Layout.meshBlock [2, 4, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 256, 256]⟩ ⟨3, ![4, 256, 256]⟩ (Layout.meshBlock [2, 4, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_pi_is_0123_Kernel : Cert.Pre_pi_is_0123_Kernel.Facts) (hPre_pi_is_0132_Kernel : Cert.Pre_pi_is_0132_Kernel.Facts) (hPre_pi_is_0213_Kernel : Cert.Pre_pi_is_0213_Kernel.Facts) (hPre_pi_is_0231_Kernel : Cert.Pre_pi_is_0231_Kernel.Facts) (hPre_pi_is_0312_Kernel : Cert.Pre_pi_is_0312_Kernel.Facts) (hPre_pi_is_0321_Kernel : Cert.Pre_pi_is_0321_Kernel.Facts) (hPre_pi_is_1023_Kernel : Cert.Pre_pi_is_1023_Kernel.Facts) (hPre_pi_is_1032_Kernel : Cert.Pre_pi_is_1032_Kernel.Facts) (hPre_pi_is_1203_Kernel : Cert.Pre_pi_is_1203_Kernel.Facts) (hPre_pi_is_1230_Kernel : Cert.Pre_pi_is_1230_Kernel.Facts) (hPre_pi_is_1302_Kernel : Cert.Pre_pi_is_1302_Kernel.Facts) (hPre_pi_is_1320_Kernel : Cert.Pre_pi_is_1320_Kernel.Facts) (hPre_pi_is_2013_Kernel : Cert.Pre_pi_is_2013_Kernel.Facts) (hPre_pi_is_2031_Kernel : Cert.Pre_pi_is_2031_Kernel.Facts) (hPre_pi_is_2103_Kernel : Cert.Pre_pi_is_2103_Kernel.Facts) (hPre_pi_is_2130_Kernel : Cert.Pre_pi_is_2130_Kernel.Facts) (hPre_pi_is_2301_Kernel : Cert.Pre_pi_is_2301_Kernel.Facts) (hPre_pi_is_2310_Kernel : Cert.Pre_pi_is_2310_Kernel.Facts) (hPre_pi_is_3012_Kernel : Cert.Pre_pi_is_3012_Kernel.Facts) (hPre_pi_is_3021_Kernel : Cert.Pre_pi_is_3021_Kernel.Facts) (hPre_pi_is_3102_Kernel : Cert.Pre_pi_is_3102_Kernel.Facts) (hPre_pi_is_3120_Kernel : Cert.Pre_pi_is_3120_Kernel.Facts) (hPre_pi_is_3201_Kernel : Cert.Pre_pi_is_3201_Kernel.Facts) (hPre_pi_is_3210_Kernel : Cert.Pre_pi_is_3210_Kernel.Facts) (hPre_pi_is_0123_ReferenceIdeal : Cert.Pre_pi_is_0123_ReferenceIdeal.Facts) (hPre_pi_is_0132_ReferenceIdeal : Cert.Pre_pi_is_0132_ReferenceIdeal.Facts) (hPre_pi_is_0213_ReferenceIdeal : Cert.Pre_pi_is_0213_ReferenceIdeal.Facts) (hPre_pi_is_0231_ReferenceIdeal : Cert.Pre_pi_is_0231_ReferenceIdeal.Facts) (hPre_pi_is_0312_ReferenceIdeal : Cert.Pre_pi_is_0312_ReferenceIdeal.Facts) (hPre_pi_is_0321_ReferenceIdeal : Cert.Pre_pi_is_0321_ReferenceIdeal.Facts) (hPre_pi_is_1023_ReferenceIdeal : Cert.Pre_pi_is_1023_ReferenceIdeal.Facts) (hPre_pi_is_1032_ReferenceIdeal : Cert.Pre_pi_is_1032_ReferenceIdeal.Facts) (hPre_pi_is_1203_ReferenceIdeal : Cert.Pre_pi_is_1203_ReferenceIdeal.Facts) (hPre_pi_is_1230_ReferenceIdeal : Cert.Pre_pi_is_1230_ReferenceIdeal.Facts) (hPre_pi_is_1302_ReferenceIdeal : Cert.Pre_pi_is_1302_ReferenceIdeal.Facts) (hPre_pi_is_1320_ReferenceIdeal : Cert.Pre_pi_is_1320_ReferenceIdeal.Facts) (hPre_pi_is_2013_ReferenceIdeal : Cert.Pre_pi_is_2013_ReferenceIdeal.Facts) (hPre_pi_is_2031_ReferenceIdeal : Cert.Pre_pi_is_2031_ReferenceIdeal.Facts) (hPre_pi_is_2103_ReferenceIdeal : Cert.Pre_pi_is_2103_ReferenceIdeal.Facts) (hPre_pi_is_2130_ReferenceIdeal : Cert.Pre_pi_is_2130_ReferenceIdeal.Facts) (hPre_pi_is_2301_ReferenceIdeal : Cert.Pre_pi_is_2301_ReferenceIdeal.Facts) (hPre_pi_is_2310_ReferenceIdeal : Cert.Pre_pi_is_2310_ReferenceIdeal.Facts) (hPre_pi_is_3012_ReferenceIdeal : Cert.Pre_pi_is_3012_ReferenceIdeal.Facts) (hPre_pi_is_3021_ReferenceIdeal : Cert.Pre_pi_is_3021_ReferenceIdeal.Facts) (hPre_pi_is_3102_ReferenceIdeal : Cert.Pre_pi_is_3102_ReferenceIdeal.Facts) (hPre_pi_is_3120_ReferenceIdeal : Cert.Pre_pi_is_3120_ReferenceIdeal.Facts) (hPre_pi_is_3201_ReferenceIdeal : Cert.Pre_pi_is_3201_ReferenceIdeal.Facts) (hPre_pi_is_3210_ReferenceIdeal : Cert.Pre_pi_is_3210_ReferenceIdeal.Facts),
    quiescent_Kernel (hKernel := hKernel) (hPre_pi_is_0123_Kernel := hPre_pi_is_0123_Kernel)
    ∧ quiescent_Kernel_pre_pi_is_0132_Kernel (hKernel := hKernel) (hPre_pi_is_0132_Kernel := hPre_pi_is_0132_Kernel)
    ∧ quiescent_Kernel_pre_pi_is_0213_Kernel (hKernel := hKernel) (hPre_pi_is_0213_Kernel := hPre_pi_is_0213_Kernel)
    ∧ quiescent_Kernel_pre_pi_is_0231_Kernel (hKernel := hKernel) (hPre_pi_is_0231_Kernel := hPre_pi_is_0231_Kernel)
    ∧ quiescent_Kernel_pre_pi_is_0312_Kernel (hKernel := hKernel) (hPre_pi_is_0312_Kernel := hPre_pi_is_0312_Kernel)
    ∧ quiescent_Kernel_pre_pi_is_0321_Kernel (hKernel := hKernel) (hPre_pi_is_0321_Kernel := hPre_pi_is_0321_Kernel)
    ∧ quiescent_Kernel_pre_pi_is_1023_Kernel (hKernel := hKernel) (hPre_pi_is_1023_Kernel := hPre_pi_is_1023_Kernel)
    ∧ quiescent_Kernel_pre_pi_is_1032_Kernel (hKernel := hKernel) (hPre_pi_is_1032_Kernel := hPre_pi_is_1032_Kernel)
    ∧ quiescent_Kernel_pre_pi_is_1203_Kernel (hKernel := hKernel) (hPre_pi_is_1203_Kernel := hPre_pi_is_1203_Kernel)
    ∧ quiescent_Kernel_pre_pi_is_1230_Kernel (hKernel := hKernel) (hPre_pi_is_1230_Kernel := hPre_pi_is_1230_Kernel)
    ∧ quiescent_Kernel_pre_pi_is_1302_Kernel (hKernel := hKernel) (hPre_pi_is_1302_Kernel := hPre_pi_is_1302_Kernel)
    ∧ quiescent_Kernel_pre_pi_is_1320_Kernel (hKernel := hKernel) (hPre_pi_is_1320_Kernel := hPre_pi_is_1320_Kernel)
    ∧ quiescent_Kernel_pre_pi_is_2013_Kernel (hKernel := hKernel) (hPre_pi_is_2013_Kernel := hPre_pi_is_2013_Kernel)
    ∧ quiescent_Kernel_pre_pi_is_2031_Kernel (hKernel := hKernel) (hPre_pi_is_2031_Kernel := hPre_pi_is_2031_Kernel)
    ∧ quiescent_Kernel_pre_pi_is_2103_Kernel (hKernel := hKernel) (hPre_pi_is_2103_Kernel := hPre_pi_is_2103_Kernel)
    ∧ quiescent_Kernel_pre_pi_is_2130_Kernel (hKernel := hKernel) (hPre_pi_is_2130_Kernel := hPre_pi_is_2130_Kernel)
    ∧ quiescent_Kernel_pre_pi_is_2301_Kernel (hKernel := hKernel) (hPre_pi_is_2301_Kernel := hPre_pi_is_2301_Kernel)
    ∧ quiescent_Kernel_pre_pi_is_2310_Kernel (hKernel := hKernel) (hPre_pi_is_2310_Kernel := hPre_pi_is_2310_Kernel)
    ∧ quiescent_Kernel_pre_pi_is_3012_Kernel (hKernel := hKernel) (hPre_pi_is_3012_Kernel := hPre_pi_is_3012_Kernel)
    ∧ quiescent_Kernel_pre_pi_is_3021_Kernel (hKernel := hKernel) (hPre_pi_is_3021_Kernel := hPre_pi_is_3021_Kernel)
    ∧ quiescent_Kernel_pre_pi_is_3102_Kernel (hKernel := hKernel) (hPre_pi_is_3102_Kernel := hPre_pi_is_3102_Kernel)
    ∧ quiescent_Kernel_pre_pi_is_3120_Kernel (hKernel := hKernel) (hPre_pi_is_3120_Kernel := hPre_pi_is_3120_Kernel)
    ∧ quiescent_Kernel_pre_pi_is_3201_Kernel (hKernel := hKernel) (hPre_pi_is_3201_Kernel := hPre_pi_is_3201_Kernel)
    ∧ quiescent_Kernel_pre_pi_is_3210_Kernel (hKernel := hKernel) (hPre_pi_is_3210_Kernel := hPre_pi_is_3210_Kernel)
    ∧ quiescent_KernelIdeal (hKernelIdeal := hKernelIdeal) (hPre_pi_is_0123_Kernel := hPre_pi_is_0123_Kernel)
    ∧ quiescent_KernelIdeal_pre_pi_is_0132_Kernel (hKernelIdeal := hKernelIdeal) (hPre_pi_is_0132_Kernel := hPre_pi_is_0132_Kernel)
    ∧ quiescent_KernelIdeal_pre_pi_is_0213_Kernel (hKernelIdeal := hKernelIdeal) (hPre_pi_is_0213_Kernel := hPre_pi_is_0213_Kernel)
    ∧ quiescent_KernelIdeal_pre_pi_is_0231_Kernel (hKernelIdeal := hKernelIdeal) (hPre_pi_is_0231_Kernel := hPre_pi_is_0231_Kernel)
    ∧ quiescent_KernelIdeal_pre_pi_is_0312_Kernel (hKernelIdeal := hKernelIdeal) (hPre_pi_is_0312_Kernel := hPre_pi_is_0312_Kernel)
    ∧ quiescent_KernelIdeal_pre_pi_is_0321_Kernel (hKernelIdeal := hKernelIdeal) (hPre_pi_is_0321_Kernel := hPre_pi_is_0321_Kernel)
    ∧ quiescent_KernelIdeal_pre_pi_is_1023_Kernel (hKernelIdeal := hKernelIdeal) (hPre_pi_is_1023_Kernel := hPre_pi_is_1023_Kernel)
    ∧ quiescent_KernelIdeal_pre_pi_is_1032_Kernel (hKernelIdeal := hKernelIdeal) (hPre_pi_is_1032_Kernel := hPre_pi_is_1032_Kernel)
    ∧ quiescent_KernelIdeal_pre_pi_is_1203_Kernel (hKernelIdeal := hKernelIdeal) (hPre_pi_is_1203_Kernel := hPre_pi_is_1203_Kernel)
    ∧ quiescent_KernelIdeal_pre_pi_is_1230_Kernel (hKernelIdeal := hKernelIdeal) (hPre_pi_is_1230_Kernel := hPre_pi_is_1230_Kernel)
    ∧ quiescent_KernelIdeal_pre_pi_is_1302_Kernel (hKernelIdeal := hKernelIdeal) (hPre_pi_is_1302_Kernel := hPre_pi_is_1302_Kernel)
    ∧ quiescent_KernelIdeal_pre_pi_is_1320_Kernel (hKernelIdeal := hKernelIdeal) (hPre_pi_is_1320_Kernel := hPre_pi_is_1320_Kernel)
    ∧ quiescent_KernelIdeal_pre_pi_is_2013_Kernel (hKernelIdeal := hKernelIdeal) (hPre_pi_is_2013_Kernel := hPre_pi_is_2013_Kernel)
    ∧ quiescent_KernelIdeal_pre_pi_is_2031_Kernel (hKernelIdeal := hKernelIdeal) (hPre_pi_is_2031_Kernel := hPre_pi_is_2031_Kernel)
    ∧ quiescent_KernelIdeal_pre_pi_is_2103_Kernel (hKernelIdeal := hKernelIdeal) (hPre_pi_is_2103_Kernel := hPre_pi_is_2103_Kernel)
    ∧ quiescent_KernelIdeal_pre_pi_is_2130_Kernel (hKernelIdeal := hKernelIdeal) (hPre_pi_is_2130_Kernel := hPre_pi_is_2130_Kernel)
    ∧ quiescent_KernelIdeal_pre_pi_is_2301_Kernel (hKernelIdeal := hKernelIdeal) (hPre_pi_is_2301_Kernel := hPre_pi_is_2301_Kernel)
    ∧ quiescent_KernelIdeal_pre_pi_is_2310_Kernel (hKernelIdeal := hKernelIdeal) (hPre_pi_is_2310_Kernel := hPre_pi_is_2310_Kernel)
    ∧ quiescent_KernelIdeal_pre_pi_is_3012_Kernel (hKernelIdeal := hKernelIdeal) (hPre_pi_is_3012_Kernel := hPre_pi_is_3012_Kernel)
    ∧ quiescent_KernelIdeal_pre_pi_is_3021_Kernel (hKernelIdeal := hKernelIdeal) (hPre_pi_is_3021_Kernel := hPre_pi_is_3021_Kernel)
    ∧ quiescent_KernelIdeal_pre_pi_is_3102_Kernel (hKernelIdeal := hKernelIdeal) (hPre_pi_is_3102_Kernel := hPre_pi_is_3102_Kernel)
    ∧ quiescent_KernelIdeal_pre_pi_is_3120_Kernel (hKernelIdeal := hKernelIdeal) (hPre_pi_is_3120_Kernel := hPre_pi_is_3120_Kernel)
    ∧ quiescent_KernelIdeal_pre_pi_is_3201_Kernel (hKernelIdeal := hKernelIdeal) (hPre_pi_is_3201_Kernel := hPre_pi_is_3201_Kernel)
    ∧ quiescent_KernelIdeal_pre_pi_is_3210_Kernel (hKernelIdeal := hKernelIdeal) (hPre_pi_is_3210_Kernel := hPre_pi_is_3210_Kernel)
    ∧ quiescent_ReferenceIdeal (hReferenceIdeal := hReferenceIdeal)
    ∧ quiescent_ReferenceIdeal_pre_pi_is_0123_ReferenceIdeal (hReferenceIdeal := hReferenceIdeal) (hPre_pi_is_0123_ReferenceIdeal := hPre_pi_is_0123_ReferenceIdeal)
    ∧ quiescent_ReferenceIdeal_pre_pi_is_0132_ReferenceIdeal (hReferenceIdeal := hReferenceIdeal) (hPre_pi_is_0132_ReferenceIdeal := hPre_pi_is_0132_ReferenceIdeal)
    ∧ quiescent_ReferenceIdeal_pre_pi_is_0213_ReferenceIdeal (hReferenceIdeal := hReferenceIdeal) (hPre_pi_is_0213_ReferenceIdeal := hPre_pi_is_0213_ReferenceIdeal)
    ∧ quiescent_ReferenceIdeal_pre_pi_is_0231_ReferenceIdeal (hReferenceIdeal := hReferenceIdeal) (hPre_pi_is_0231_ReferenceIdeal := hPre_pi_is_0231_ReferenceIdeal)
    ∧ quiescent_ReferenceIdeal_pre_pi_is_0312_ReferenceIdeal (hReferenceIdeal := hReferenceIdeal) (hPre_pi_is_0312_ReferenceIdeal := hPre_pi_is_0312_ReferenceIdeal)
    ∧ quiescent_ReferenceIdeal_pre_pi_is_0321_ReferenceIdeal (hReferenceIdeal := hReferenceIdeal) (hPre_pi_is_0321_ReferenceIdeal := hPre_pi_is_0321_ReferenceIdeal)
    ∧ quiescent_ReferenceIdeal_pre_pi_is_1023_ReferenceIdeal (hReferenceIdeal := hReferenceIdeal) (hPre_pi_is_1023_ReferenceIdeal := hPre_pi_is_1023_ReferenceIdeal)
    ∧ quiescent_ReferenceIdeal_pre_pi_is_1032_ReferenceIdeal (hReferenceIdeal := hReferenceIdeal) (hPre_pi_is_1032_ReferenceIdeal := hPre_pi_is_1032_ReferenceIdeal)
    ∧ quiescent_ReferenceIdeal_pre_pi_is_1203_ReferenceIdeal (hReferenceIdeal := hReferenceIdeal) (hPre_pi_is_1203_ReferenceIdeal := hPre_pi_is_1203_ReferenceIdeal)
    ∧ quiescent_ReferenceIdeal_pre_pi_is_1230_ReferenceIdeal (hReferenceIdeal := hReferenceIdeal) (hPre_pi_is_1230_ReferenceIdeal := hPre_pi_is_1230_ReferenceIdeal)
    ∧ quiescent_ReferenceIdeal_pre_pi_is_1302_ReferenceIdeal (hReferenceIdeal := hReferenceIdeal) (hPre_pi_is_1302_ReferenceIdeal := hPre_pi_is_1302_ReferenceIdeal)
    ∧ quiescent_ReferenceIdeal_pre_pi_is_1320_ReferenceIdeal (hReferenceIdeal := hReferenceIdeal) (hPre_pi_is_1320_ReferenceIdeal := hPre_pi_is_1320_ReferenceIdeal)
    ∧ quiescent_ReferenceIdeal_pre_pi_is_2013_ReferenceIdeal (hReferenceIdeal := hReferenceIdeal) (hPre_pi_is_2013_ReferenceIdeal := hPre_pi_is_2013_ReferenceIdeal)
    ∧ quiescent_ReferenceIdeal_pre_pi_is_2031_ReferenceIdeal (hReferenceIdeal := hReferenceIdeal) (hPre_pi_is_2031_ReferenceIdeal := hPre_pi_is_2031_ReferenceIdeal)
    ∧ quiescent_ReferenceIdeal_pre_pi_is_2103_ReferenceIdeal (hReferenceIdeal := hReferenceIdeal) (hPre_pi_is_2103_ReferenceIdeal := hPre_pi_is_2103_ReferenceIdeal)
    ∧ quiescent_ReferenceIdeal_pre_pi_is_2130_ReferenceIdeal (hReferenceIdeal := hReferenceIdeal) (hPre_pi_is_2130_ReferenceIdeal := hPre_pi_is_2130_ReferenceIdeal)
    ∧ quiescent_ReferenceIdeal_pre_pi_is_2301_ReferenceIdeal (hReferenceIdeal := hReferenceIdeal) (hPre_pi_is_2301_ReferenceIdeal := hPre_pi_is_2301_ReferenceIdeal)
    ∧ quiescent_ReferenceIdeal_pre_pi_is_2310_ReferenceIdeal (hReferenceIdeal := hReferenceIdeal) (hPre_pi_is_2310_ReferenceIdeal := hPre_pi_is_2310_ReferenceIdeal)
    ∧ quiescent_ReferenceIdeal_pre_pi_is_3012_ReferenceIdeal (hReferenceIdeal := hReferenceIdeal) (hPre_pi_is_3012_ReferenceIdeal := hPre_pi_is_3012_ReferenceIdeal)
    ∧ quiescent_ReferenceIdeal_pre_pi_is_3021_ReferenceIdeal (hReferenceIdeal := hReferenceIdeal) (hPre_pi_is_3021_ReferenceIdeal := hPre_pi_is_3021_ReferenceIdeal)
    ∧ quiescent_ReferenceIdeal_pre_pi_is_3102_ReferenceIdeal (hReferenceIdeal := hReferenceIdeal) (hPre_pi_is_3102_ReferenceIdeal := hPre_pi_is_3102_ReferenceIdeal)
    ∧ quiescent_ReferenceIdeal_pre_pi_is_3120_ReferenceIdeal (hReferenceIdeal := hReferenceIdeal) (hPre_pi_is_3120_ReferenceIdeal := hPre_pi_is_3120_ReferenceIdeal)
    ∧ quiescent_ReferenceIdeal_pre_pi_is_3201_ReferenceIdeal (hReferenceIdeal := hReferenceIdeal) (hPre_pi_is_3201_ReferenceIdeal := hPre_pi_is_3201_ReferenceIdeal)
    ∧ quiescent_ReferenceIdeal_pre_pi_is_3210_ReferenceIdeal (hReferenceIdeal := hReferenceIdeal) (hPre_pi_is_3210_ReferenceIdeal := hPre_pi_is_3210_ReferenceIdeal)
    ∧ preserves_Kernel_KernelIdeal
    ∧ algebraic_KernelIdeal_ReferenceIdeal (hKernelIdeal := hKernelIdeal) (hReferenceIdeal := hReferenceIdeal) (hPre_pi_is_0123_Kernel := hPre_pi_is_0123_Kernel)
    ∧ algebraic_KernelIdeal_ReferenceIdeal_pre_pi_is_0132_Kernel (hKernelIdeal := hKernelIdeal) (hReferenceIdeal := hReferenceIdeal) (hPre_pi_is_0132_Kernel := hPre_pi_is_0132_Kernel)
    ∧ algebraic_KernelIdeal_ReferenceIdeal_pre_pi_is_0213_Kernel (hKernelIdeal := hKernelIdeal) (hReferenceIdeal := hReferenceIdeal) (hPre_pi_is_0213_Kernel := hPre_pi_is_0213_Kernel)
    ∧ algebraic_KernelIdeal_ReferenceIdeal_pre_pi_is_0231_Kernel (hKernelIdeal := hKernelIdeal) (hReferenceIdeal := hReferenceIdeal) (hPre_pi_is_0231_Kernel := hPre_pi_is_0231_Kernel)
    ∧ algebraic_KernelIdeal_ReferenceIdeal_pre_pi_is_0312_Kernel (hKernelIdeal := hKernelIdeal) (hReferenceIdeal := hReferenceIdeal) (hPre_pi_is_0312_Kernel := hPre_pi_is_0312_Kernel)
    ∧ algebraic_KernelIdeal_ReferenceIdeal_pre_pi_is_0321_Kernel (hKernelIdeal := hKernelIdeal) (hReferenceIdeal := hReferenceIdeal) (hPre_pi_is_0321_Kernel := hPre_pi_is_0321_Kernel)
    ∧ algebraic_KernelIdeal_ReferenceIdeal_pre_pi_is_1023_Kernel (hKernelIdeal := hKernelIdeal) (hReferenceIdeal := hReferenceIdeal) (hPre_pi_is_1023_Kernel := hPre_pi_is_1023_Kernel)
    ∧ algebraic_KernelIdeal_ReferenceIdeal_pre_pi_is_1032_Kernel (hKernelIdeal := hKernelIdeal) (hReferenceIdeal := hReferenceIdeal) (hPre_pi_is_1032_Kernel := hPre_pi_is_1032_Kernel)
    ∧ algebraic_KernelIdeal_ReferenceIdeal_pre_pi_is_1203_Kernel (hKernelIdeal := hKernelIdeal) (hReferenceIdeal := hReferenceIdeal) (hPre_pi_is_1203_Kernel := hPre_pi_is_1203_Kernel)
    ∧ algebraic_KernelIdeal_ReferenceIdeal_pre_pi_is_1230_Kernel (hKernelIdeal := hKernelIdeal) (hReferenceIdeal := hReferenceIdeal) (hPre_pi_is_1230_Kernel := hPre_pi_is_1230_Kernel)
    ∧ algebraic_KernelIdeal_ReferenceIdeal_pre_pi_is_1302_Kernel (hKernelIdeal := hKernelIdeal) (hReferenceIdeal := hReferenceIdeal) (hPre_pi_is_1302_Kernel := hPre_pi_is_1302_Kernel)
    ∧ algebraic_KernelIdeal_ReferenceIdeal_pre_pi_is_1320_Kernel (hKernelIdeal := hKernelIdeal) (hReferenceIdeal := hReferenceIdeal) (hPre_pi_is_1320_Kernel := hPre_pi_is_1320_Kernel)
    ∧ algebraic_KernelIdeal_ReferenceIdeal_pre_pi_is_2013_Kernel (hKernelIdeal := hKernelIdeal) (hReferenceIdeal := hReferenceIdeal) (hPre_pi_is_2013_Kernel := hPre_pi_is_2013_Kernel)
    ∧ algebraic_KernelIdeal_ReferenceIdeal_pre_pi_is_2031_Kernel (hKernelIdeal := hKernelIdeal) (hReferenceIdeal := hReferenceIdeal) (hPre_pi_is_2031_Kernel := hPre_pi_is_2031_Kernel)
    ∧ algebraic_KernelIdeal_ReferenceIdeal_pre_pi_is_2103_Kernel (hKernelIdeal := hKernelIdeal) (hReferenceIdeal := hReferenceIdeal) (hPre_pi_is_2103_Kernel := hPre_pi_is_2103_Kernel)
    ∧ algebraic_KernelIdeal_ReferenceIdeal_pre_pi_is_2130_Kernel (hKernelIdeal := hKernelIdeal) (hReferenceIdeal := hReferenceIdeal) (hPre_pi_is_2130_Kernel := hPre_pi_is_2130_Kernel)
    ∧ algebraic_KernelIdeal_ReferenceIdeal_pre_pi_is_2301_Kernel (hKernelIdeal := hKernelIdeal) (hReferenceIdeal := hReferenceIdeal) (hPre_pi_is_2301_Kernel := hPre_pi_is_2301_Kernel)
    ∧ algebraic_KernelIdeal_ReferenceIdeal_pre_pi_is_2310_Kernel (hKernelIdeal := hKernelIdeal) (hReferenceIdeal := hReferenceIdeal) (hPre_pi_is_2310_Kernel := hPre_pi_is_2310_Kernel)
    ∧ algebraic_KernelIdeal_ReferenceIdeal_pre_pi_is_3012_Kernel (hKernelIdeal := hKernelIdeal) (hReferenceIdeal := hReferenceIdeal) (hPre_pi_is_3012_Kernel := hPre_pi_is_3012_Kernel)
    ∧ algebraic_KernelIdeal_ReferenceIdeal_pre_pi_is_3021_Kernel (hKernelIdeal := hKernelIdeal) (hReferenceIdeal := hReferenceIdeal) (hPre_pi_is_3021_Kernel := hPre_pi_is_3021_Kernel)
    ∧ algebraic_KernelIdeal_ReferenceIdeal_pre_pi_is_3102_Kernel (hKernelIdeal := hKernelIdeal) (hReferenceIdeal := hReferenceIdeal) (hPre_pi_is_3102_Kernel := hPre_pi_is_3102_Kernel)
    ∧ algebraic_KernelIdeal_ReferenceIdeal_pre_pi_is_3120_Kernel (hKernelIdeal := hKernelIdeal) (hReferenceIdeal := hReferenceIdeal) (hPre_pi_is_3120_Kernel := hPre_pi_is_3120_Kernel)
    ∧ algebraic_KernelIdeal_ReferenceIdeal_pre_pi_is_3201_Kernel (hKernelIdeal := hKernelIdeal) (hReferenceIdeal := hReferenceIdeal) (hPre_pi_is_3201_Kernel := hPre_pi_is_3201_Kernel)
    ∧ algebraic_KernelIdeal_ReferenceIdeal_pre_pi_is_3210_Kernel (hKernelIdeal := hKernelIdeal) (hReferenceIdeal := hReferenceIdeal) (hPre_pi_is_3210_Kernel := hPre_pi_is_3210_Kernel)
-- ==== Pre_pi_is_0123_Kernel.lean ====
abbrev S1x256x256 : Shape := ⟨3, ![1, 256, 256]⟩
abbrev S4 : Shape := ⟨1, ![4]⟩

class Facts : Prop where

variable [Facts]

noncomputable abbrev lit0 : Fin 4 → BitVec 32 := fun
  | 0 => 0#32 | 1 => 1#32 | 2 => 2#32 | 3 => 3#32
  | _ => 0#32

def fn {F : FTy → Type} [FloatOps F] (main_arg0 : FVec F S1x256x256 .bf16) (main_arg1 : IVec S4 32) : IVec S4 1 :=
  let main_c : IVec S4 32 := fun i => lit0 (S4.rowMajor i)
  let main_v0 : IVec S4 1 := cmpi .eq main_arg1 main_c
  main_v0
-- ==== Pre_pi_is_0123_ReferenceIdeal.lean ====
abbrev S4x256x256 : Shape := ⟨3, ![4, 256, 256]⟩
abbrev S4 : Shape := ⟨1, ![4]⟩

class Facts : Prop where

variable [Facts]

noncomputable abbrev lit0 : Fin 4 → BitVec 32 := fun
  | 0 => 0#32 | 1 => 1#32 | 2 => 2#32 | 3 => 3#32
  | _ => 0#32

def fn {F : FTy → Type} [FloatOps F] (main_arg0 : FVec F S4x256x256 .bf16) (main_arg1 : IVec S4 32) : IVec S4 1 :=
  let main_c : IVec S4 32 := fun i => lit0 (S4.rowMajor i)
  let main_v0 : IVec S4 1 := cmpi .eq main_arg1 main_c
  main_v0
-- ==== Pre_pi_is_0132_Kernel.lean ====
abbrev S1x256x256 : Shape := ⟨3, ![1, 256, 256]⟩
abbrev S4 : Shape := ⟨1, ![4]⟩

class Facts : Prop where

variable [Facts]

noncomputable abbrev lit0 : Fin 4 → BitVec 32 := fun
  | 0 => 0#32 | 1 => 1#32 | 2 => 3#32 | 3 => 2#32
  | _ => 0#32

def fn {F : FTy → Type} [FloatOps F] (main_arg0 : FVec F S1x256x256 .bf16) (main_arg1 : IVec S4 32) : IVec S4 1 :=
  let main_c : IVec S4 32 := fun i => lit0 (S4.rowMajor i)
  let main_v0 : IVec S4 1 := cmpi .eq main_arg1 main_c
  main_v0
-- ==== Pre_pi_is_0132_ReferenceIdeal.lean ====
abbrev S4x256x256 : Shape := ⟨3, ![4, 256, 256]⟩
abbrev S4 : Shape := ⟨1, ![4]⟩

class Facts : Prop where

variable [Facts]

noncomputable abbrev lit0 : Fin 4 → BitVec 32 := fun
  | 0 => 0#32 | 1 => 1#32 | 2 => 3#32 | 3 => 2#32
  | _ => 0#32

def fn {F : FTy → Type} [FloatOps F] (main_arg0 : FVec F S4x256x256 .bf16) (main_arg1 : IVec S4 32) : IVec S4 1 :=
  let main_c : IVec S4 32 := fun i => lit0 (S4.rowMajor i)
  let main_v0 : IVec S4 1 := cmpi .eq main_arg1 main_c
  main_v0
-- ==== Pre_pi_is_0213_Kernel.lean ====
abbrev S1x256x256 : Shape := ⟨3, ![1, 256, 256]⟩
abbrev S4 : Shape := ⟨1, ![4]⟩

class Facts : Prop where

variable [Facts]

noncomputable abbrev lit0 : Fin 4 → BitVec 32 := fun
  | 0 => 0#32 | 1 => 2#32 | 2 => 1#32 | 3 => 3#32
  | _ => 0#32

def fn {F : FTy → Type} [FloatOps F] (main_arg0 : FVec F S1x256x256 .bf16) (main_arg1 : IVec S4 32) : IVec S4 1 :=
  let main_c : IVec S4 32 := fun i => lit0 (S4.rowMajor i)
  let main_v0 : IVec S4 1 := cmpi .eq main_arg1 main_c
  main_v0
-- ==== Pre_pi_is_0213_ReferenceIdeal.lean ====
abbrev S4x256x256 : Shape := ⟨3, ![4, 256, 256]⟩
abbrev S4 : Shape := ⟨1, ![4]⟩

class Facts : Prop where

variable [Facts]

noncomputable abbrev lit0 : Fin 4 → BitVec 32 := fun
  | 0 => 0#32 | 1 => 2#32 | 2 => 1#32 | 3 => 3#32
  | _ => 0#32

def fn {F : FTy → Type} [FloatOps F] (main_arg0 : FVec F S4x256x256 .bf16) (main_arg1 : IVec S4 32) : IVec S4 1 :=
  let main_c : IVec S4 32 := fun i => lit0 (S4.rowMajor i)
  let main_v0 : IVec S4 1 := cmpi .eq main_arg1 main_c
  main_v0
-- ==== Pre_pi_is_0231_Kernel.lean ====
abbrev S1x256x256 : Shape := ⟨3, ![1, 256, 256]⟩
abbrev S4 : Shape := ⟨1, ![4]⟩

class Facts : Prop where

variable [Facts]

noncomputable abbrev lit0 : Fin 4 → BitVec 32 := fun
  | 0 => 0#32 | 1 => 2#32 | 2 => 3#32 | 3 => 1#32
  | _ => 0#32

def fn {F : FTy → Type} [FloatOps F] (main_arg0 : FVec F S1x256x256 .bf16) (main_arg1 : IVec S4 32) : IVec S4 1 :=
  let main_c : IVec S4 32 := fun i => lit0 (S4.rowMajor i)
  let main_v0 : IVec S4 1 := cmpi .eq main_arg1 main_c
  main_v0
-- ==== Pre_pi_is_0231_ReferenceIdeal.lean ====
abbrev S4x256x256 : Shape := ⟨3, ![4, 256, 256]⟩
abbrev S4 : Shape := ⟨1, ![4]⟩

class Facts : Prop where

variable [Facts]

noncomputable abbrev lit0 : Fin 4 → BitVec 32 := fun
  | 0 => 0#32 | 1 => 2#32 | 2 => 3#32 | 3 => 1#32
  | _ => 0#32

def fn {F : FTy → Type} [FloatOps F] (main_arg0 : FVec F S4x256x256 .bf16) (main_arg1 : IVec S4 32) : IVec S4 1 :=
  let main_c : IVec S4 32 := fun i => lit0 (S4.rowMajor i)
  let main_v0 : IVec S4 1 := cmpi .eq main_arg1 main_c
  main_v0
-- ==== Pre_pi_is_0312_Kernel.lean ====
abbrev S1x256x256 : Shape := ⟨3, ![1, 256, 256]⟩
abbrev S4 : Shape := ⟨1, ![4]⟩

class Facts : Prop where

variable [Facts]

noncomputable abbrev lit0 : Fin 4 → BitVec 32 := fun
  | 0 => 0#32 | 1 => 3#32 | 2 => 1#32 | 3 => 2#32
  | _ => 0#32

def fn {F : FTy → Type} [FloatOps F] (main_arg0 : FVec F S1x256x256 .bf16) (main_arg1 : IVec S4 32) : IVec S4 1 :=
  let main_c : IVec S4 32 := fun i => lit0 (S4.rowMajor i)
  let main_v0 : IVec S4 1 := cmpi .eq main_arg1 main_c
  main_v0
-- ==== Pre_pi_is_0312_ReferenceIdeal.lean ====
abbrev S4x256x256 : Shape := ⟨3, ![4, 256, 256]⟩
abbrev S4 : Shape := ⟨1, ![4]⟩

class Facts : Prop where

variable [Facts]

noncomputable abbrev lit0 : Fin 4 → BitVec 32 := fun
  | 0 => 0#32 | 1 => 3#32 | 2 => 1#32 | 3 => 2#32
  | _ => 0#32

def fn {F : FTy → Type} [FloatOps F] (main_arg0 : FVec F S4x256x256 .bf16) (main_arg1 : IVec S4 32) : IVec S4 1 :=
  let main_c : IVec S4 32 := fun i => lit0 (S4.rowMajor i)
  let main_v0 : IVec S4 1 := cmpi .eq main_arg1 main_c
  main_v0
-- ==== Pre_pi_is_0321_Kernel.lean ====
abbrev S1x256x256 : Shape := ⟨3, ![1, 256, 256]⟩
abbrev S4 : Shape := ⟨1, ![4]⟩

class Facts : Prop where

variable [Facts]

noncomputable abbrev lit0 : Fin 4 → BitVec 32 := fun
  | 0 => 0#32 | 1 => 3#32 | 2 => 2#32 | 3 => 1#32
  | _ => 0#32

def fn {F : FTy → Type} [FloatOps F] (main_arg0 : FVec F S1x256x256 .bf16) (main_arg1 : IVec S4 32) : IVec S4 1 :=
  let main_c : IVec S4 32 := fun i => lit0 (S4.rowMajor i)
  let main_v0 : IVec S4 1 := cmpi .eq main_arg1 main_c
  main_v0
-- ==== Pre_pi_is_0321_ReferenceIdeal.lean ====
abbrev S4x256x256 : Shape := ⟨3, ![4, 256, 256]⟩
abbrev S4 : Shape := ⟨1, ![4]⟩

class Facts : Prop where

variable [Facts]

noncomputable abbrev lit0 : Fin 4 → BitVec 32 := fun
  | 0 => 0#32 | 1 => 3#32 | 2 => 2#32 | 3 => 1#32
  | _ => 0#32

def fn {F : FTy → Type} [FloatOps F] (main_arg0 : FVec F S4x256x256 .bf16) (main_arg1 : IVec S4 32) : IVec S4 1 :=
  let main_c : IVec S4 32 := fun i => lit0 (S4.rowMajor i)
  let main_v0 : IVec S4 1 := cmpi .eq main_arg1 main_c
  main_v0
-- ==== Pre_pi_is_1023_Kernel.lean ====
abbrev S1x256x256 : Shape := ⟨3, ![1, 256, 256]⟩
abbrev S4 : Shape := ⟨1, ![4]⟩

class Facts : Prop where

variable [Facts]

noncomputable abbrev lit0 : Fin 4 → BitVec 32 := fun
  | 0 => 1#32 | 1 => 0#32 | 2 => 2#32 | 3 => 3#32
  | _ => 0#32

def fn {F : FTy → Type} [FloatOps F] (main_arg0 : FVec F S1x256x256 .bf16) (main_arg1 : IVec S4 32) : IVec S4 1 :=
  let main_c : IVec S4 32 := fun i => lit0 (S4.rowMajor i)
  let main_v0 : IVec S4 1 := cmpi .eq main_arg1 main_c
  main_v0
-- ==== Pre_pi_is_1023_ReferenceIdeal.lean ====
abbrev S4x256x256 : Shape := ⟨3, ![4, 256, 256]⟩
abbrev S4 : Shape := ⟨1, ![4]⟩

class Facts : Prop where

variable [Facts]

noncomputable abbrev lit0 : Fin 4 → BitVec 32 := fun
  | 0 => 1#32 | 1 => 0#32 | 2 => 2#32 | 3 => 3#32
  | _ => 0#32

def fn {F : FTy → Type} [FloatOps F] (main_arg0 : FVec F S4x256x256 .bf16) (main_arg1 : IVec S4 32) : IVec S4 1 :=
  let main_c : IVec S4 32 := fun i => lit0 (S4.rowMajor i)
  let main_v0 : IVec S4 1 := cmpi .eq main_arg1 main_c
  main_v0
-- ==== Pre_pi_is_1032_Kernel.lean ====
abbrev S1x256x256 : Shape := ⟨3, ![1, 256, 256]⟩
abbrev S4 : Shape := ⟨1, ![4]⟩

class Facts : Prop where

variable [Facts]

noncomputable abbrev lit0 : Fin 4 → BitVec 32 := fun
  | 0 => 1#32 | 1 => 0#32 | 2 => 3#32 | 3 => 2#32
  | _ => 0#32

def fn {F : FTy → Type} [FloatOps F] (main_arg0 : FVec F S1x256x256 .bf16) (main_arg1 : IVec S4 32) : IVec S4 1 :=
  let main_c : IVec S4 32 := fun i => lit0 (S4.rowMajor i)
  let main_v0 : IVec S4 1 := cmpi .eq main_arg1 main_c
  main_v0
-- ==== Pre_pi_is_1032_ReferenceIdeal.lean ====
abbrev S4x256x256 : Shape := ⟨3, ![4, 256, 256]⟩
abbrev S4 : Shape := ⟨1, ![4]⟩

class Facts : Prop where

variable [Facts]

noncomputable abbrev lit0 : Fin 4 → BitVec 32 := fun
  | 0 => 1#32 | 1 => 0#32 | 2 => 3#32 | 3 => 2#32
  | _ => 0#32

def fn {F : FTy → Type} [FloatOps F] (main_arg0 : FVec F S4x256x256 .bf16) (main_arg1 : IVec S4 32) : IVec S4 1 :=
  let main_c : IVec S4 32 := fun i => lit0 (S4.rowMajor i)
  let main_v0 : IVec S4 1 := cmpi .eq main_arg1 main_c
  main_v0
-- ==== Pre_pi_is_1203_Kernel.lean ====
abbrev S1x256x256 : Shape := ⟨3, ![1, 256, 256]⟩
abbrev S4 : Shape := ⟨1, ![4]⟩

class Facts : Prop where

variable [Facts]

noncomputable abbrev lit0 : Fin 4 → BitVec 32 := fun
  | 0 => 1#32 | 1 => 2#32 | 2 => 0#32 | 3 => 3#32
  | _ => 0#32

def fn {F : FTy → Type} [FloatOps F] (main_arg0 : FVec F S1x256x256 .bf16) (main_arg1 : IVec S4 32) : IVec S4 1 :=
  let main_c : IVec S4 32 := fun i => lit0 (S4.rowMajor i)
  let main_v0 : IVec S4 1 := cmpi .eq main_arg1 main_c
  main_v0
-- ==== Pre_pi_is_1203_ReferenceIdeal.lean ====
abbrev S4x256x256 : Shape := ⟨3, ![4, 256, 256]⟩
abbrev S4 : Shape := ⟨1, ![4]⟩

class Facts : Prop where

variable [Facts]

noncomputable abbrev lit0 : Fin 4 → BitVec 32 := fun
  | 0 => 1#32 | 1 => 2#32 | 2 => 0#32 | 3 => 3#32
  | _ => 0#32

def fn {F : FTy → Type} [FloatOps F] (main_arg0 : FVec F S4x256x256 .bf16) (main_arg1 : IVec S4 32) : IVec S4 1 :=
  let main_c : IVec S4 32 := fun i => lit0 (S4.rowMajor i)
  let main_v0 : IVec S4 1 := cmpi .eq main_arg1 main_c
  main_v0
-- ==== Pre_pi_is_1230_Kernel.lean ====
abbrev S1x256x256 : Shape := ⟨3, ![1, 256, 256]⟩
abbrev S4 : Shape := ⟨1, ![4]⟩

class Facts : Prop where

variable [Facts]

noncomputable abbrev lit0 : Fin 4 → BitVec 32 := fun
  | 0 => 1#32 | 1 => 2#32 | 2 => 3#32 | 3 => 0#32
  | _ => 0#32

def fn {F : FTy → Type} [FloatOps F] (main_arg0 : FVec F S1x256x256 .bf16) (main_arg1 : IVec S4 32) : IVec S4 1 :=
  let main_c : IVec S4 32 := fun i => lit0 (S4.rowMajor i)
  let main_v0 : IVec S4 1 := cmpi .eq main_arg1 main_c
  main_v0
-- ==== Pre_pi_is_1230_ReferenceIdeal.lean ====
abbrev S4x256x256 : Shape := ⟨3, ![4, 256, 256]⟩
abbrev S4 : Shape := ⟨1, ![4]⟩

class Facts : Prop where

variable [Facts]

noncomputable abbrev lit0 : Fin 4 → BitVec 32 := fun
  | 0 => 1#32 | 1 => 2#32 | 2 => 3#32 | 3 => 0#32
  | _ => 0#32

def fn {F : FTy → Type} [FloatOps F] (main_arg0 : FVec F S4x256x256 .bf16) (main_arg1 : IVec S4 32) : IVec S4 1 :=
  let main_c : IVec S4 32 := fun i => lit0 (S4.rowMajor i)
  let main_v0 : IVec S4 1 := cmpi .eq main_arg1 main_c
  main_v0
-- ==== Pre_pi_is_1302_Kernel.lean ====
abbrev S1x256x256 : Shape := ⟨3, ![1, 256, 256]⟩
abbrev S4 : Shape := ⟨1, ![4]⟩

class Facts : Prop where

variable [Facts]

noncomputable abbrev lit0 : Fin 4 → BitVec 32 := fun
  | 0 => 1#32 | 1 => 3#32 | 2 => 0#32 | 3 => 2#32
  | _ => 0#32

def fn {F : FTy → Type} [FloatOps F] (main_arg0 : FVec F S1x256x256 .bf16) (main_arg1 : IVec S4 32) : IVec S4 1 :=
  let main_c : IVec S4 32 := fun i => lit0 (S4.rowMajor i)
  let main_v0 : IVec S4 1 := cmpi .eq main_arg1 main_c
  main_v0
-- ==== Pre_pi_is_1302_ReferenceIdeal.lean ====
abbrev S4x256x256 : Shape := ⟨3, ![4, 256, 256]⟩
abbrev S4 : Shape := ⟨1, ![4]⟩

class Facts : Prop where

variable [Facts]

noncomputable abbrev lit0 : Fin 4 → BitVec 32 := fun
  | 0 => 1#32 | 1 => 3#32 | 2 => 0#32 | 3 => 2#32
  | _ => 0#32

def fn {F : FTy → Type} [FloatOps F] (main_arg0 : FVec F S4x256x256 .bf16) (main_arg1 : IVec S4 32) : IVec S4 1 :=
  let main_c : IVec S4 32 := fun i => lit0 (S4.rowMajor i)
  let main_v0 : IVec S4 1 := cmpi .eq main_arg1 main_c
  main_v0
-- ==== Pre_pi_is_1320_Kernel.lean ====
abbrev S1x256x256 : Shape := ⟨3, ![1, 256, 256]⟩
abbrev S4 : Shape := ⟨1, ![4]⟩

class Facts : Prop where

variable [Facts]

noncomputable abbrev lit0 : Fin 4 → BitVec 32 := fun
  | 0 => 1#32 | 1 => 3#32 | 2 => 2#32 | 3 => 0#32
  | _ => 0#32

def fn {F : FTy → Type} [FloatOps F] (main_arg0 : FVec F S1x256x256 .bf16) (main_arg1 : IVec S4 32) : IVec S4 1 :=
  let main_c : IVec S4 32 := fun i => lit0 (S4.rowMajor i)
  let main_v0 : IVec S4 1 := cmpi .eq main_arg1 main_c
  main_v0
-- ==== Pre_pi_is_1320_ReferenceIdeal.lean ====
abbrev S4x256x256 : Shape := ⟨3, ![4, 256, 256]⟩
abbrev S4 : Shape := ⟨1, ![4]⟩

class Facts : Prop where

variable [Facts]

noncomputable abbrev lit0 : Fin 4 → BitVec 32 := fun
  | 0 => 1#32 | 1 => 3#32 | 2 => 2#32 | 3 => 0#32
  | _ => 0#32

def fn {F : FTy → Type} [FloatOps F] (main_arg0 : FVec F S4x256x256 .bf16) (main_arg1 : IVec S4 32) : IVec S4 1 :=
  let main_c : IVec S4 32 := fun i => lit0 (S4.rowMajor i)
  let main_v0 : IVec S4 1 := cmpi .eq main_arg1 main_c
  main_v0
-- ==== Pre_pi_is_2013_Kernel.lean ====
abbrev S1x256x256 : Shape := ⟨3, ![1, 256, 256]⟩
abbrev S4 : Shape := ⟨1, ![4]⟩

class Facts : Prop where

variable [Facts]

noncomputable abbrev lit0 : Fin 4 → BitVec 32 := fun
  | 0 => 2#32 | 1 => 0#32 | 2 => 1#32 | 3 => 3#32
  | _ => 0#32

def fn {F : FTy → Type} [FloatOps F] (main_arg0 : FVec F S1x256x256 .bf16) (main_arg1 : IVec S4 32) : IVec S4 1 :=
  let main_c : IVec S4 32 := fun i => lit0 (S4.rowMajor i)
  let main_v0 : IVec S4 1 := cmpi .eq main_arg1 main_c
  main_v0
-- ==== Pre_pi_is_2013_ReferenceIdeal.lean ====
abbrev S4x256x256 : Shape := ⟨3, ![4, 256, 256]⟩
abbrev S4 : Shape := ⟨1, ![4]⟩

class Facts : Prop where

variable [Facts]

noncomputable abbrev lit0 : Fin 4 → BitVec 32 := fun
  | 0 => 2#32 | 1 => 0#32 | 2 => 1#32 | 3 => 3#32
  | _ => 0#32

def fn {F : FTy → Type} [FloatOps F] (main_arg0 : FVec F S4x256x256 .bf16) (main_arg1 : IVec S4 32) : IVec S4 1 :=
  let main_c : IVec S4 32 := fun i => lit0 (S4.rowMajor i)
  let main_v0 : IVec S4 1 := cmpi .eq main_arg1 main_c
  main_v0
-- ==== Pre_pi_is_2031_Kernel.lean ====
abbrev S1x256x256 : Shape := ⟨3, ![1, 256, 256]⟩
abbrev S4 : Shape := ⟨1, ![4]⟩

class Facts : Prop where

variable [Facts]

noncomputable abbrev lit0 : Fin 4 → BitVec 32 := fun
  | 0 => 2#32 | 1 => 0#32 | 2 => 3#32 | 3 => 1#32
  | _ => 0#32

def fn {F : FTy → Type} [FloatOps F] (main_arg0 : FVec F S1x256x256 .bf16) (main_arg1 : IVec S4 32) : IVec S4 1 :=
  let main_c : IVec S4 32 := fun i => lit0 (S4.rowMajor i)
  let main_v0 : IVec S4 1 := cmpi .eq main_arg1 main_c
  main_v0
-- ==== Pre_pi_is_2031_ReferenceIdeal.lean ====
abbrev S4x256x256 : Shape := ⟨3, ![4, 256, 256]⟩
abbrev S4 : Shape := ⟨1, ![4]⟩

class Facts : Prop where

variable [Facts]

noncomputable abbrev lit0 : Fin 4 → BitVec 32 := fun
  | 0 => 2#32 | 1 => 0#32 | 2 => 3#32 | 3 => 1#32
  | _ => 0#32

def fn {F : FTy → Type} [FloatOps F] (main_arg0 : FVec F S4x256x256 .bf16) (main_arg1 : IVec S4 32) : IVec S4 1 :=
  let main_c : IVec S4 32 := fun i => lit0 (S4.rowMajor i)
  let main_v0 : IVec S4 1 := cmpi .eq main_arg1 main_c
  main_v0
-- ==== Pre_pi_is_2103_Kernel.lean ====
abbrev S1x256x256 : Shape := ⟨3, ![1, 256, 256]⟩
abbrev S4 : Shape := ⟨1, ![4]⟩

class Facts : Prop where

variable [Facts]

noncomputable abbrev lit0 : Fin 4 → BitVec 32 := fun
  | 0 => 2#32 | 1 => 1#32 | 2 => 0#32 | 3 => 3#32
  | _ => 0#32

def fn {F : FTy → Type} [FloatOps F] (main_arg0 : FVec F S1x256x256 .bf16) (main_arg1 : IVec S4 32) : IVec S4 1 :=
  let main_c : IVec S4 32 := fun i => lit0 (S4.rowMajor i)
  let main_v0 : IVec S4 1 := cmpi .eq main_arg1 main_c
  main_v0
-- ==== Pre_pi_is_2103_ReferenceIdeal.lean ====
abbrev S4x256x256 : Shape := ⟨3, ![4, 256, 256]⟩
abbrev S4 : Shape := ⟨1, ![4]⟩

class Facts : Prop where

variable [Facts]

noncomputable abbrev lit0 : Fin 4 → BitVec 32 := fun
  | 0 => 2#32 | 1 => 1#32 | 2 => 0#32 | 3 => 3#32
  | _ => 0#32

def fn {F : FTy → Type} [FloatOps F] (main_arg0 : FVec F S4x256x256 .bf16) (main_arg1 : IVec S4 32) : IVec S4 1 :=
  let main_c : IVec S4 32 := fun i => lit0 (S4.rowMajor i)
  let main_v0 : IVec S4 1 := cmpi .eq main_arg1 main_c
  main_v0
-- ==== Pre_pi_is_2130_Kernel.lean ====
abbrev S1x256x256 : Shape := ⟨3, ![1, 256, 256]⟩
abbrev S4 : Shape := ⟨1, ![4]⟩

class Facts : Prop where

variable [Facts]

noncomputable abbrev lit0 : Fin 4 → BitVec 32 := fun
  | 0 => 2#32 | 1 => 1#32 | 2 => 3#32 | 3 => 0#32
  | _ => 0#32

def fn {F : FTy → Type} [FloatOps F] (main_arg0 : FVec F S1x256x256 .bf16) (main_arg1 : IVec S4 32) : IVec S4 1 :=
  let main_c : IVec S4 32 := fun i => lit0 (S4.rowMajor i)
  let main_v0 : IVec S4 1 := cmpi .eq main_arg1 main_c
  main_v0
-- ==== Pre_pi_is_2130_ReferenceIdeal.lean ====
abbrev S4x256x256 : Shape := ⟨3, ![4, 256, 256]⟩
abbrev S4 : Shape := ⟨1, ![4]⟩

class Facts : Prop where

variable [Facts]

noncomputable abbrev lit0 : Fin 4 → BitVec 32 := fun
  | 0 => 2#32 | 1 => 1#32 | 2 => 3#32 | 3 => 0#32
  | _ => 0#32

def fn {F : FTy → Type} [FloatOps F] (main_arg0 : FVec F S4x256x256 .bf16) (main_arg1 : IVec S4 32) : IVec S4 1 :=
  let main_c : IVec S4 32 := fun i => lit0 (S4.rowMajor i)
  let main_v0 : IVec S4 1 := cmpi .eq main_arg1 main_c
  main_v0
-- ==== Pre_pi_is_2301_Kernel.lean ====
abbrev S1x256x256 : Shape := ⟨3, ![1, 256, 256]⟩
abbrev S4 : Shape := ⟨1, ![4]⟩

class Facts : Prop where

variable [Facts]

noncomputable abbrev lit0 : Fin 4 → BitVec 32 := fun
  | 0 => 2#32 | 1 => 3#32 | 2 => 0#32 | 3 => 1#32
  | _ => 0#32

def fn {F : FTy → Type} [FloatOps F] (main_arg0 : FVec F S1x256x256 .bf16) (main_arg1 : IVec S4 32) : IVec S4 1 :=
  let main_c : IVec S4 32 := fun i => lit0 (S4.rowMajor i)
  let main_v0 : IVec S4 1 := cmpi .eq main_arg1 main_c
  main_v0
-- ==== Pre_pi_is_2301_ReferenceIdeal.lean ====
abbrev S4x256x256 : Shape := ⟨3, ![4, 256, 256]⟩
abbrev S4 : Shape := ⟨1, ![4]⟩

class Facts : Prop where

variable [Facts]

noncomputable abbrev lit0 : Fin 4 → BitVec 32 := fun
  | 0 => 2#32 | 1 => 3#32 | 2 => 0#32 | 3 => 1#32
  | _ => 0#32

def fn {F : FTy → Type} [FloatOps F] (main_arg0 : FVec F S4x256x256 .bf16) (main_arg1 : IVec S4 32) : IVec S4 1 :=
  let main_c : IVec S4 32 := fun i => lit0 (S4.rowMajor i)
  let main_v0 : IVec S4 1 := cmpi .eq main_arg1 main_c
  main_v0
-- ==== Pre_pi_is_2310_Kernel.lean ====
abbrev S1x256x256 : Shape := ⟨3, ![1, 256, 256]⟩
abbrev S4 : Shape := ⟨1, ![4]⟩

class Facts : Prop where

variable [Facts]

noncomputable abbrev lit0 : Fin 4 → BitVec 32 := fun
  | 0 => 2#32 | 1 => 3#32 | 2 => 1#32 | 3 => 0#32
  | _ => 0#32

def fn {F : FTy → Type} [FloatOps F] (main_arg0 : FVec F S1x256x256 .bf16) (main_arg1 : IVec S4 32) : IVec S4 1 :=
  let main_c : IVec S4 32 := fun i => lit0 (S4.rowMajor i)
  let main_v0 : IVec S4 1 := cmpi .eq main_arg1 main_c
  main_v0
-- ==== Pre_pi_is_2310_ReferenceIdeal.lean ====
abbrev S4x256x256 : Shape := ⟨3, ![4, 256, 256]⟩
abbrev S4 : Shape := ⟨1, ![4]⟩

class Facts : Prop where

variable [Facts]

noncomputable abbrev lit0 : Fin 4 → BitVec 32 := fun
  | 0 => 2#32 | 1 => 3#32 | 2 => 1#32 | 3 => 0#32
  | _ => 0#32

def fn {F : FTy → Type} [FloatOps F] (main_arg0 : FVec F S4x256x256 .bf16) (main_arg1 : IVec S4 32) : IVec S4 1 :=
  let main_c : IVec S4 32 := fun i => lit0 (S4.rowMajor i)
  let main_v0 : IVec S4 1 := cmpi .eq main_arg1 main_c
  main_v0
-- ==== Pre_pi_is_3012_Kernel.lean ====
abbrev S1x256x256 : Shape := ⟨3, ![1, 256, 256]⟩
abbrev S4 : Shape := ⟨1, ![4]⟩

class Facts : Prop where

variable [Facts]

noncomputable abbrev lit0 : Fin 4 → BitVec 32 := fun
  | 0 => 3#32 | 1 => 0#32 | 2 => 1#32 | 3 => 2#32
  | _ => 0#32

def fn {F : FTy → Type} [FloatOps F] (main_arg0 : FVec F S1x256x256 .bf16) (main_arg1 : IVec S4 32) : IVec S4 1 :=
  let main_c : IVec S4 32 := fun i => lit0 (S4.rowMajor i)
  let main_v0 : IVec S4 1 := cmpi .eq main_arg1 main_c
  main_v0
-- ==== Pre_pi_is_3012_ReferenceIdeal.lean ====
abbrev S4x256x256 : Shape := ⟨3, ![4, 256, 256]⟩
abbrev S4 : Shape := ⟨1, ![4]⟩

class Facts : Prop where

variable [Facts]

noncomputable abbrev lit0 : Fin 4 → BitVec 32 := fun
  | 0 => 3#32 | 1 => 0#32 | 2 => 1#32 | 3 => 2#32
  | _ => 0#32

def fn {F : FTy → Type} [FloatOps F] (main_arg0 : FVec F S4x256x256 .bf16) (main_arg1 : IVec S4 32) : IVec S4 1 :=
  let main_c : IVec S4 32 := fun i => lit0 (S4.rowMajor i)
  let main_v0 : IVec S4 1 := cmpi .eq main_arg1 main_c
  main_v0
-- ==== Pre_pi_is_3021_Kernel.lean ====
abbrev S1x256x256 : Shape := ⟨3, ![1, 256, 256]⟩
abbrev S4 : Shape := ⟨1, ![4]⟩

class Facts : Prop where

variable [Facts]

noncomputable abbrev lit0 : Fin 4 → BitVec 32 := fun
  | 0 => 3#32 | 1 => 0#32 | 2 => 2#32 | 3 => 1#32
  | _ => 0#32

def fn {F : FTy → Type} [FloatOps F] (main_arg0 : FVec F S1x256x256 .bf16) (main_arg1 : IVec S4 32) : IVec S4 1 :=
  let main_c : IVec S4 32 := fun i => lit0 (S4.rowMajor i)
  let main_v0 : IVec S4 1 := cmpi .eq main_arg1 main_c
  main_v0
-- ==== Pre_pi_is_3021_ReferenceIdeal.lean ====
abbrev S4x256x256 : Shape := ⟨3, ![4, 256, 256]⟩
abbrev S4 : Shape := ⟨1, ![4]⟩

class Facts : Prop where

variable [Facts]

noncomputable abbrev lit0 : Fin 4 → BitVec 32 := fun
  | 0 => 3#32 | 1 => 0#32 | 2 => 2#32 | 3 => 1#32
  | _ => 0#32

def fn {F : FTy → Type} [FloatOps F] (main_arg0 : FVec F S4x256x256 .bf16) (main_arg1 : IVec S4 32) : IVec S4 1 :=
  let main_c : IVec S4 32 := fun i => lit0 (S4.rowMajor i)
  let main_v0 : IVec S4 1 := cmpi .eq main_arg1 main_c
  main_v0
-- ==== Pre_pi_is_3102_Kernel.lean ====
abbrev S1x256x256 : Shape := ⟨3, ![1, 256, 256]⟩
abbrev S4 : Shape := ⟨1, ![4]⟩

class Facts : Prop where

variable [Facts]

noncomputable abbrev lit0 : Fin 4 → BitVec 32 := fun
  | 0 => 3#32 | 1 => 1#32 | 2 => 0#32 | 3 => 2#32
  | _ => 0#32

def fn {F : FTy → Type} [FloatOps F] (main_arg0 : FVec F S1x256x256 .bf16) (main_arg1 : IVec S4 32) : IVec S4 1 :=
  let main_c : IVec S4 32 := fun i => lit0 (S4.rowMajor i)
  let main_v0 : IVec S4 1 := cmpi .eq main_arg1 main_c
  main_v0
-- ==== Pre_pi_is_3102_ReferenceIdeal.lean ====
abbrev S4x256x256 : Shape := ⟨3, ![4, 256, 256]⟩
abbrev S4 : Shape := ⟨1, ![4]⟩

class Facts : Prop where

variable [Facts]

noncomputable abbrev lit0 : Fin 4 → BitVec 32 := fun
  | 0 => 3#32 | 1 => 1#32 | 2 => 0#32 | 3 => 2#32
  | _ => 0#32

def fn {F : FTy → Type} [FloatOps F] (main_arg0 : FVec F S4x256x256 .bf16) (main_arg1 : IVec S4 32) : IVec S4 1 :=
  let main_c : IVec S4 32 := fun i => lit0 (S4.rowMajor i)
  let main_v0 : IVec S4 1 := cmpi .eq main_arg1 main_c
  main_v0
-- ==== Pre_pi_is_3120_Kernel.lean ====
abbrev S1x256x256 : Shape := ⟨3, ![1, 256, 256]⟩
abbrev S4 : Shape := ⟨1, ![4]⟩

class Facts : Prop where

variable [Facts]

noncomputable abbrev lit0 : Fin 4 → BitVec 32 := fun
  | 0 => 3#32 | 1 => 1#32 | 2 => 2#32 | 3 => 0#32
  | _ => 0#32

def fn {F : FTy → Type} [FloatOps F] (main_arg0 : FVec F S1x256x256 .bf16) (main_arg1 : IVec S4 32) : IVec S4 1 :=
  let main_c : IVec S4 32 := fun i => lit0 (S4.rowMajor i)
  let main_v0 : IVec S4 1 := cmpi .eq main_arg1 main_c
  main_v0
-- ==== Pre_pi_is_3120_ReferenceIdeal.lean ====
abbrev S4x256x256 : Shape := ⟨3, ![4, 256, 256]⟩
abbrev S4 : Shape := ⟨1, ![4]⟩

class Facts : Prop where

variable [Facts]

noncomputable abbrev lit0 : Fin 4 → BitVec 32 := fun
  | 0 => 3#32 | 1 => 1#32 | 2 => 2#32 | 3 => 0#32
  | _ => 0#32

def fn {F : FTy → Type} [FloatOps F] (main_arg0 : FVec F S4x256x256 .bf16) (main_arg1 : IVec S4 32) : IVec S4 1 :=
  let main_c : IVec S4 32 := fun i => lit0 (S4.rowMajor i)
  let main_v0 : IVec S4 1 := cmpi .eq main_arg1 main_c
  main_v0
-- ==== Pre_pi_is_3201_Kernel.lean ====
abbrev S1x256x256 : Shape := ⟨3, ![1, 256, 256]⟩
abbrev S4 : Shape := ⟨1, ![4]⟩

class Facts : Prop where

variable [Facts]

noncomputable abbrev lit0 : Fin 4 → BitVec 32 := fun
  | 0 => 3#32 | 1 => 2#32 | 2 => 0#32 | 3 => 1#32
  | _ => 0#32

def fn {F : FTy → Type} [FloatOps F] (main_arg0 : FVec F S1x256x256 .bf16) (main_arg1 : IVec S4 32) : IVec S4 1 :=
  let main_c : IVec S4 32 := fun i => lit0 (S4.rowMajor i)
  let main_v0 : IVec S4 1 := cmpi .eq main_arg1 main_c
  main_v0
-- ==== Pre_pi_is_3201_ReferenceIdeal.lean ====
abbrev S4x256x256 : Shape := ⟨3, ![4, 256, 256]⟩
abbrev S4 : Shape := ⟨1, ![4]⟩

class Facts : Prop where

variable [Facts]

noncomputable abbrev lit0 : Fin 4 → BitVec 32 := fun
  | 0 => 3#32 | 1 => 2#32 | 2 => 0#32 | 3 => 1#32
  | _ => 0#32

def fn {F : FTy → Type} [FloatOps F] (main_arg0 : FVec F S4x256x256 .bf16) (main_arg1 : IVec S4 32) : IVec S4 1 :=
  let main_c : IVec S4 32 := fun i => lit0 (S4.rowMajor i)
  let main_v0 : IVec S4 1 := cmpi .eq main_arg1 main_c
  main_v0
-- ==== Pre_pi_is_3210_Kernel.lean ====
abbrev S1x256x256 : Shape := ⟨3, ![1, 256, 256]⟩
abbrev S4 : Shape := ⟨1, ![4]⟩

class Facts : Prop where

variable [Facts]

noncomputable abbrev lit0 : Fin 4 → BitVec 32 := fun
  | 0 => 3#32 | 1 => 2#32 | 2 => 1#32 | 3 => 0#32
  | _ => 0#32

def fn {F : FTy → Type} [FloatOps F] (main_arg0 : FVec F S1x256x256 .bf16) (main_arg1 : IVec S4 32) : IVec S4 1 :=
  let main_c : IVec S4 32 := fun i => lit0 (S4.rowMajor i)
  let main_v0 : IVec S4 1 := cmpi .eq main_arg1 main_c
  main_v0
-- ==== Pre_pi_is_3210_ReferenceIdeal.lean ====
abbrev S4x256x256 : Shape := ⟨3, ![4, 256, 256]⟩
abbrev S4 : Shape := ⟨1, ![4]⟩

class Facts : Prop where

variable [Facts]

noncomputable abbrev lit0 : Fin 4 → BitVec 32 := fun
  | 0 => 3#32 | 1 => 2#32 | 2 => 1#32 | 3 => 0#32
  | _ => 0#32

def fn {F : FTy → Type} [FloatOps F] (main_arg0 : FVec F S4x256x256 .bf16) (main_arg1 : IVec S4 32) : IVec S4 1 :=
  let main_c : IVec S4 32 := fun i => lit0 (S4.rowMajor i)
  let main_v0 : IVec S4 1 := cmpi .eq main_arg1 main_c
  main_v0
-- ==== Kernel.lean ====
abbrev S1x256x256 : Shape := ⟨3, ![1, 256, 256]⟩
abbrev S4 : Shape := ⟨1, ![4]⟩
abbrev S2 : Shape := ⟨1, ![2]⟩
abbrev S1 : Shape := ⟨1, ![1]⟩
abbrev S_ : Shape := ⟨0, ![]⟩
abbrev S1x128x256 : Shape := ⟨3, ![1, 128, 256]⟩

abbrev nBuf : Space → Nat
  | .hbm => 3
  | .vmem => 3
  | .smem => 1
  | _ => 0

abbrev bufTy : (tb : Table) → Fin (tcTables nBuf tb) → BufTy
  | .hbm, ⟨0, _⟩ => ⟨S1x256x256, .bf16⟩
  | .hbm, ⟨1, _⟩ => ⟨S4, .i32⟩
  | .hbm, ⟨2, _⟩ => ⟨S1x256x256, .bf16⟩
  | .local _ .vmem, ⟨0, _⟩ => ⟨S1x256x256, .bf16⟩
  | .local _ .vmem, ⟨1, _⟩ => ⟨S1x256x256, .bf16⟩
  | .local _ .vmem, ⟨2, _⟩ => ⟨S1x256x256, .bf16⟩
  | .local _ .smem, ⟨0, _⟩ => ⟨S4, .i32⟩
  | _, _ => ⟨S1x256x256, .bf16⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | _, _ => false

abbrev semScoped : Fin 1 → Bool
  | ⟨0, _⟩ => false
  | _ => false

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  (ofTc nBuf bufTy 1 7 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg2_0 : Ref sig .tc := ⟨.vmem, 1, rfl⟩
abbrev cc0_scratch0 : Ref sig .tc := ⟨.vmem, 2, rfl⟩
abbrev cc0_stg1_0 : Ref sig .tc := ⟨.smem, 0, rfl⟩
abbrev cc0_sem0_0 : DmaSem sig := 0
abbrev cc0_sem1_0 : DmaSem sig := 1
abbrev cc0_sem2_0 : DmaSem sig := 2
abbrev barrier0 : Sem sig := 0

abbrev nD : Nat := 32
abbrev τ : Topo := Topo.v7x

variable {F : FTy → Type} [FloatOps F]

abbrev grid0 : Pipeline.Grid := .none

def k0_off1 (d0 : Dev nD) : Fin 1 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v9 : Index := Scalar.indexCast v8
  ![v9.toNat]
def k0_dev1 (d0 : Dev nD) (v11 : BitVec 32) (v14 : BitVec 32) (v17 : BitVec 32) (v20 : BitVec 32) : Nat :=
  let c0_i32_7 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_6 : BitVec 32 := 16#32
  let v24 : BitVec 32 := Scalar.muli v2 c16_i32_6
  let v25 : BitVec 32 := Scalar.addi c0_i32_7 v24
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_8 : BitVec 32 := 4#32
  let v26 : BitVec 32 := Scalar.muli v5 c4_i32_8
  let v27 : BitVec 32 := Scalar.addi v25 v26
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v21 : BitVec 1 := Scalar.cmpi .eq v20 v8
  let c3_i32 : BitVec 32 := 3#32
  let v18 : BitVec 1 := Scalar.cmpi .eq v17 v8
  let c2_i32_4 : BitVec 32 := 2#32
  let v15 : BitVec 1 := Scalar.cmpi .eq v14 v8
  let c1_i32_3 : BitVec 32 := 1#32
  let v12 : BitVec 1 := Scalar.cmpi .eq v11 v8
  let c0_i32 : BitVec 32 := 0#32
  let c0_i32_2 : BitVec 32 := 0#32
  let v13 : BitVec 32 := Scalar.select v12 c0_i32 c0_i32_2
  let v16 : BitVec 32 := Scalar.select v15 c1_i32_3 v13
  let v19 : BitVec 32 := Scalar.select v18 c2_i32_4 v16
  let v22 : BitVec 32 := Scalar.select v21 c3_i32 v19
  let c1_i32_9 : BitVec 32 := 1#32
  let v28 : BitVec 32 := Scalar.muli v22 c1_i32_9
  let v29 : BitVec 32 := Scalar.addi v27 v28
  v29.toNat

def k0_chk1 (d0 : Dev nD) (v11 : BitVec 32) (v14 : BitVec 32) (v17 : BitVec 32) (v20 : BitVec 32) : Prop :=
  ((k0_dev1 d0 v11 v14 v17 v20) < nD)
theorem k0_dev1_lt : ∀ (d0 : Dev nD) (v11 : BitVec 32) (v14 : BitVec 32) (v17 : BitVec 32) (v20 : BitVec 32) (k0_hw1 : k0_chk1 d0 v11 v14 v17 v20), (k0_dev1 d0 v11 v14 v17 v20) < nD := fun d0 v11 v14 v17 v20 k0_hw1 => k0_hw1

def k0_dev2 (d0 : Dev nD) (v10 : BitVec 32) : Nat :=
  let c0_i32_20 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_19 : BitVec 32 := 16#32
  let v35 : BitVec 32 := Scalar.muli v2 c16_i32_19
  let v36 : BitVec 32 := Scalar.addi c0_i32_20 v35
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_21 : BitVec 32 := 4#32
  let v37 : BitVec 32 := Scalar.muli v5 c4_i32_21
  let v38 : BitVec 32 := Scalar.addi v36 v37
  let c1_i32_22 : BitVec 32 := 1#32
  let v39 : BitVec 32 := Scalar.muli v10 c1_i32_22
  let v40 : BitVec 32 := Scalar.addi v38 v39
  v40.toNat

def k0_dev3 (d0 : Dev nD) (v10 : BitVec 32) : Nat :=
  let c0_i32_37 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_36 : BitVec 32 := 16#32
  let v52 : BitVec 32 := Scalar.muli v2 c16_i32_36
  let v53 : BitVec 32 := Scalar.addi c0_i32_37 v52
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_38 : BitVec 32 := 4#32
  let v54 : BitVec 32 := Scalar.muli v5 c4_i32_38
  let v55 : BitVec 32 := Scalar.addi v53 v54
  let c1_i32_39 : BitVec 32 := 1#32
  let v56 : BitVec 32 := Scalar.muli v10 c1_i32_39
  let v57 : BitVec 32 := Scalar.addi v55 v56
  v57.toNat

def k0_chk2 (d0 : Dev nD) (v10 : BitVec 32) : Prop :=
  ((k0_dev2 d0 v10) < nD) ∧
  ((k0_dev3 d0 v10) < nD)
theorem k0_dev2_lt : ∀ (d0 : Dev nD) (v10 : BitVec 32) (k0_hw2 : k0_chk2 d0 v10), (k0_dev2 d0 v10) < nD := fun d0 v10 k0_hw2 => k0_hw2.1
theorem k0_dev3_lt : ∀ (d0 : Dev nD) (v10 : BitVec 32) (k0_hw2 : k0_chk2 d0 v10), (k0_dev3 d0 v10) < nD := fun d0 v10 k0_hw2 => k0_hw2.2

abbrev stage0_0 : Fin 1 → Memref sig .tc .vmem S1x256x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S4 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4x256x256 : Shape := ⟨3, ![4, 256, 256]⟩
abbrev S4 : Shape := ⟨1, ![4]⟩
abbrev S_ : Shape := ⟨0, ![]⟩
abbrev S4x1 : Shape := ⟨2, ![4, 1]⟩

abbrev nBuf : Space → Nat
  | .hbm => 16
  | .vmem => 0
  | .smem => 0
  | _ => 0

abbrev bufTy : (tb : Table) → Fin (tcTables nBuf tb) → BufTy
  | .hbm, ⟨0, _⟩ => ⟨S4x256x256, .bf16⟩
  | .hbm, ⟨1, _⟩ => ⟨S4, .i32⟩
  | .hbm, ⟨2, _⟩ => ⟨S4, .i32⟩
  | .hbm, ⟨3, _⟩ => ⟨S4, .i32⟩
  | .hbm, ⟨4, _⟩ => ⟨S4, .i32⟩
  | .hbm, ⟨5, _⟩ => ⟨S_, .i32⟩
  | .hbm, ⟨6, _⟩ => ⟨S4, .i32⟩
  | .hbm, ⟨7, _⟩ => ⟨S4, .i1⟩
  | .hbm, ⟨8, _⟩ => ⟨S_, .i32⟩
  | .hbm, ⟨9, _⟩ => ⟨S4, .i32⟩
  | .hbm, ⟨10, _⟩ => ⟨S4, .i32⟩
  | .hbm, ⟨11, _⟩ => ⟨S4, .i32⟩
  | .hbm, ⟨12, _⟩ => ⟨S4x1, .i32⟩
  | .hbm, ⟨13, _⟩ => ⟨S4x256x256, .bf16⟩
  | .hbm, ⟨14, _⟩ => ⟨S4x256x256, .f32⟩
  | .hbm, ⟨15, _⟩ => ⟨S4x256x256, .bf16⟩
  | _, _ => ⟨S4x256x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1_0 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]
-- ==== Proof.Table.lean ====
/-
# The permutation and the devices it pairs

The kernel reads a table `pi` of four words. Where the table is a permutation `σ` of {0, 1, 2, 3}, device `c`, at
coordinate `c % 4` along the third mesh axis, sends its block to the device at coordinate `σ (c % 4)` of its own row of
that axis, and receives the block of the device at coordinate `σ⁻¹ (c % 4)`. This module names the two devices and shows
that the addresses the kernel computes from the table's words are theirs.
-/
module

public import proofs.«01_k».proof.Proof.Gen.KernelIdeal
public import Mathlib.GroupTheory.Perm.Basic
public import Mathlib.Data.Fintype.Perm

@[expose] public section

namespace Cert.PermRows

open Cert.KernelIdeal Cert.KernelIdeal.Gen
open Idealize.ShloMosaic

/-- The coordinate of device `c` along the third mesh axis. -/
def zc (c : Dev nD) : Fin 4 := ⟨c.val % 4, Nat.mod_lt _ (by decide)⟩

set_option backward.proofsInPublic true in
/-- The device of `c`'s row at coordinate `k`. -/
def inRow (c : Dev nD) (k : Fin 4) : Dev nD := ⟨c.val / 4 * 4 + k.val, by have : c.val < 32 := c.isLt; have := k.isLt; show _ < 32; omega⟩

theorem zc_inRow (c : Dev nD) (k : Fin 4) : zc (inRow c k) = k := by
  have := k.isLt
  exact Fin.ext (show (c.val / 4 * 4 + k.val) % 4 = k.val by omega)

theorem inRow_inRow (c : Dev nD) (k l : Fin 4) : inRow (inRow c k) l = inRow c l := by
  have := k.isLt
  exact Fin.ext (show (c.val / 4 * 4 + k.val) / 4 * 4 + l.val = c.val / 4 * 4 + l.val by omega)

theorem inRow_zc (c : Dev nD) : inRow c (zc c) = c :=
  Fin.ext (show c.val / 4 * 4 + c.val % 4 = c.val by omega)

variable (σ : Equiv.Perm (Fin 4))

/-- Where device `c` sends its block. -/
def tgt (c : Dev nD) : Dev nD := inRow c (σ (zc c))
/-- Whose block device `c` receives. -/
def src (c : Dev nD) : Dev nD := inRow c (σ.symm (zc c))

theorem src_tgt (c : Dev nD) : src σ (tgt σ c) = c := by
  unfold src tgt; rw [zc_inRow, Equiv.symm_apply_apply, inRow_inRow, inRow_zc]
theorem tgt_src (c : Dev nD) : tgt σ (src σ c) = c := by
  unfold src tgt; rw [zc_inRow, Equiv.apply_symm_apply, inRow_inRow, inRow_zc]

/-- Sending permutes the devices. -/
def sends : Dev nD ≃ Dev nD := ⟨tgt σ, src σ, src_tgt σ, tgt_src σ⟩

/-- A coordinate as a word of the table. -/
abbrev word (k : Fin 4) : BitVec 32 := BitVec.ofNat 32 k.val

/-- The first copy's target, computed from the word `k`. -/
theorem dev2_word : ∀ (c : Dev nD) (k : Fin 4), k0_dev2 c (word k) = (inRow c k).val := by decide +kernel
/-- The second copy's target, computed from the word `k`. -/
theorem dev3_word : ∀ (c : Dev nD) (k : Fin 4), k0_dev3 c (word k) = (inRow c k).val := by decide +kernel
/-- The device signalled, computed from the table's four words: the one whose word is `c`'s coordinate. -/
theorem dev1_words : ∀ (c : Dev nD) (s : Equiv.Perm (Fin 4)),
    k0_dev1 c (word (s 0)) (word (s 1)) (word (s 2)) (word (s 3)) = (inRow c (s.symm (zc c))).val := by decide +kernel

/-- The checks the kernel makes of the words it has read hold of a permutation's. -/
theorem chk2_word (c : Dev nD) (k : Fin 4) : k0_chk2 c (word k) :=
  ⟨(dev2_word c k).trans_lt (inRow c k).isLt, (dev3_word c k).trans_lt (inRow c k).isLt⟩

end Cert.PermRows
-- ==== Proof.Halves.lean ====
/-
# The two halves of a block

The kernel moves its block of 256 rows as two halves of 128: half 0 is rows [0, 128), half 1 is rows [128, 256). This
module names the halves of the send buffer and of the result's staging buffer, shows that they part the whole buffer,
and follows the contents of one half from the input, through the send buffer, into another device's result.
-/
module

public import proofs.«01_k».proof.Proof.Table
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.Value
public import Idealize.ShloMosaic.Lib.Tactic

@[expose] public section

noncomputable section

namespace Cert.PermRows

open Cert.KernelIdeal Cert.KernelIdeal.Gen
open Idealize.ShloMosaic
open Idealize.ShloMosaic.TcCoe

variable {F : FTy → Type} [FloatOps F]

/-! ## The memrefs -/

/-- The staged input block, the staged table, the staged result block and the send buffer. -/
abbrev xM : Memref sig .tc .vmem S1x256x256 .bf16 := Memref.whole cc0_stg0_0
abbrev tM : Memref sig .tc .smem S4 .i32 := Memref.whole cc0_stg1_0
abbrev oM : Memref sig .tc .vmem S1x256x256 .bf16 := Memref.whole cc0_stg2_0
abbrev sM : Memref sig .tc .vmem S1x256x256 .bf16 := Memref.whole cc0_scratch0

/-- Where half `h` starts. -/
abbrev off : Fin 2 → Fin 3 → Nat
  | 0 => ![0, 0, 0]
  | 1 => ![0, 128, 0]
theorem off_inb (h : Fin 2) : ∀ a, off h a + S1x128x256.size a ≤ S1x256x256.size a := by
  match h with
  | 0 => exact inb_S1x256x256_S1x128x256_0_0_0
  | 1 => exact inb_S1x256x256_S1x128x256_0_128_0

/-- Half `h` of a block, as a rectangle of it. -/
abbrev rect (h : Fin 2) : Rect S1x256x256 := Rect.unit (s := S1x256x256) (off h) S1x128x256.size (off_inb h)
/-- Half `h` of the result's staging buffer. -/
abbrev oH (h : Fin 2) : Memref sig .tc .vmem S1x128x256 .bf16 := oM.slice (rect h) (fun _ => rfl)
/-- Half `h` of the send buffer. -/
abbrev sH (h : Fin 2) : Memref sig .tc .vmem S1x128x256 .bf16 := sM.slice (rect h) (fun _ => rfl)

/-! ## The halves part the block -/

theorem rect_disjoint : Disjoint (rect 0).set (rect 1).set :=
  Rect.unit_disjoint (s := S1x256x256) (1 : Fin 3) (Or.inl (by decide))

theorem rect_union : (rect 0).set ∪ (rect 1).set = Finset.univ := by
  refine Finset.eq_univ_iff_forall.mpr fun i => Finset.mem_union.mpr ?_
  have h0 : (i (0 : Fin 3)).val < 1 := (i (0 : Fin 3)).isLt
  have h1 : (i (1 : Fin 3)).val < 256 := (i (1 : Fin 3)).isLt
  have h2 : (i (2 : Fin 3)).val < 256 := (i (2 : Fin 3)).isLt
  rcases Nat.lt_or_ge (i (1 : Fin 3)).val 128 with h | h
  · refine Or.inl (Rect.mem_set_unit.mpr fun a => ?_)
    match a with
    | 0 => exact ⟨Nat.zero_le _, (show (i (0 : Fin 3)).val < 0 + 1 by omega)⟩
    | 1 => exact ⟨Nat.zero_le _, (show (i (1 : Fin 3)).val < 0 + 128 by omega)⟩
    | 2 => exact ⟨Nat.zero_le _, (show (i (2 : Fin 3)).val < 0 + 256 by omega)⟩
  · refine Or.inr (Rect.mem_set_unit.mpr fun a => ?_)
    match a with
    | 0 => exact ⟨Nat.zero_le _, (show (i (0 : Fin 3)).val < 0 + 1 by omega)⟩
    | 1 => exact ⟨h, (show (i (1 : Fin 3)).val < 128 + 128 by omega)⟩
    | 2 => exact ⟨Nat.zero_le _, (show (i (2 : Fin 3)).val < 0 + 256 by omega)⟩

theorem oH_set (h : Fin 2) : (oH h).view.set = (rect h).set := View.set_slice_whole cc0_stg2_0 (rect h)
theorem sH_set (h : Fin 2) : (sH h).view.set = (rect h).set := View.set_slice_whole cc0_scratch0 (rect h)

/-! ## The contents of a half -/

/-- The casts between a vector's shape and itself change nothing. -/
theorem pay2_pay1 (v : Vec F S1x128x256 .bf16) : k0_pay2 (k0_pay1 v) = v := by
  unfold k0_pay2 k0_pay1; simp only [shapeCast_self]
theorem pay3_eq (v : Vec F S1x128x256 .bf16) : k0_pay3 v = v := by
  unfold k0_pay3; simp only [shapeCast_self]

/-- Half `h` of the input `x`, stored in the send buffer's half and copied into the result's, is `x` there: whatever the
    two buffers held. -/
theorem landed_half (h : Fin 2) (fd : (cc0_stg2_0 : Ref sig .tc).ty.Contents (Elt F)) (fs : (cc0_scratch0 : Ref sig .tc).ty.Contents (Elt F))
    (x : (cc0_stg0_0 : Ref sig .tc).ty.Contents (Elt F)) (i : (cc0_stg2_0 : Ref sig .tc).ty.Idx) (hi : i ∈ (oH h).view.set) :
    (oH h).view.write (Elt F) fd ((sH h).view.read (Elt F)
      ((sM.access (rect h)).write (Elt F) fs (xM.view.readAt (Elt F) (rect h).toLoadRect x) Finset.univ)) Finset.univ i = x i := by
  obtain ⟨j, rfl⟩ := View.exists_emb_of_mem_set (oH h).view hi
  rw [View.write_emb_of_mem _ _ (Finset.mem_univ _), show (sH h).view.read (Elt F) ((sM.access (rect h)).write (Elt F) fs (xM.view.readAt (Elt F) (rect h).toLoadRect x) Finset.univ)
    = xM.view.readAt (Elt F) (rect h).toLoadRect x from View.read_write_univ (v := (sH h).view) fs _]
  rfl

end Cert.PermRows

end
-- ==== Proof.Protocol.lean ====
/-
# The protocol between the devices

Per semaphore, with `tgt c` the device `c` sends to and `src c` the one it receives from:

* the BARRIER of device `d` is signalled once, by `tgt d`, and waited on once, by `d`. The signal hands over both halves
  of `tgt d`'s result staging buffer, whatever they hold, and the fact that `tgt d`'s two receive semaphores are fresh;
* the SEND semaphore of half `h` of device `c` is completed by `c`'s own copy of that half and waited on by `c`. It hands
  the send buffer's half back;
* the RECEIVE semaphore of half `h` of device `d` is completed by `src d`'s copy of that half and waited on by `d`. It
  hands over half `h` of `d`'s result staging buffer, holding half `h` of `src d`'s input block.

Each of the five has one round of one duty. A device enters owing its signal and the two receive completions at its
target; it waits on its barrier owing the latter two, and on the others owing nothing, so the levels barrier < receive
order every wait.
-/
module

public import proofs.«01_k».proof.Proof.Halves

@[expose] public section

noncomputable section

namespace Cert.PermRows

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) Unit
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (σ : Equiv.Perm (Fin 4)) (m : (ℓ : Loc nD τ sig) → Buf (Elt F) ℓ) (ρ : Dev nD → PrngReg)

/-- The machine before the launch: memory `m`, every counter at zero. -/
def s₀ : MemSt nD τ sig (Elt F) := ⟨m, fun _ => 0, ρ⟩

/-! ## The cells -/

abbrev barS : Sem sig := (SemArray.scalar (sig.barrier 0 rfl) : Sems sig S_).sem
abbrev sendS : Fin 2 → DmaSem sig
  | 0 => ⟨3, by decide⟩
  | 1 => ⟨4, by decide⟩
abbrev recvS : Fin 2 → DmaSem sig
  | 0 => ⟨5, by decide⟩
  | 1 => ⟨6, by decide⟩

/-- The kernel reaches its transfer semaphores by slicing the two arrays of them. -/
theorem slice_send0 : ((cc0_scratch1.slice (Rect.unit (s := S2) ![0] ![1] inb_S2_S1_0)).squeeze S_ squeezes_S1_S_).sem = sendS 0 := rfl
theorem slice_send1 : ((cc0_scratch1.slice (Rect.unit (s := S2) ![1] ![1] inb_S2_S1_1)).squeeze S_ squeezes_S1_S_).sem = sendS 1 := rfl
theorem slice_recv0 : ((cc0_scratch2.slice (Rect.unit (s := S2) ![0] ![1] inb_S2_S1_0)).squeeze S_ squeezes_S1_S_).sem = recvS 0 := rfl
theorem slice_recv1 : ((cc0_scratch2.slice (Rect.unit (s := S2) ![1] ![1] inb_S2_S1_1)).squeeze S_ squeezes_S1_S_).sem = recvS 1 := rfl

abbrev cellAt (c : Dev nD) (s : SemLoc sig) : GSem nD τ sig := ((c : Thread nD τ), s)
abbrev barCell (c : Dev nD) : GSem nD τ sig := cellAt c (.reg barS)
abbrev sendCell (h : Fin 2) (c : Dev nD) : GSem nD τ sig := cellAt c (.dma (sendS h))
abbrev recvCell (h : Fin 2) (c : Dev nD) : GSem nD τ sig := cellAt c (.dma (recvS h))

/-- The kernel's own scoped semaphores, as the launch counts them; with the barrier before them, a device's cells. -/
abbrev osem : Fin 4 → SemLoc sig
  | 0 => .dma (sendS 0)
  | 1 => .dma (sendS 1)
  | 2 => .dma (recvS 0)
  | 3 => .dma (recvS 1)
abbrev csem : Fin 5 → SemLoc sig
  | 0 => .reg barS
  | 1 => .dma (sendS 0)
  | 2 => .dma (sendS 1)
  | 3 => .dma (recvS 0)
  | 4 => .dma (recvS 1)
abbrev kcell (ck : Dev nD × Fin 5) : GSem nD τ sig := cellAt ck.1 (csem ck.2)

/-- What the copy of one half credits its semaphores. -/
abbrev N : ℕ := (oH 0).view.dmaCredit
theorem N_pos : 0 < N := View.dmaCredit_pos _ (by decide)
theorem credit_o (h : Fin 2) : (oH h).view.dmaCredit = N := by match h with | 0 => rfl | 1 => rfl
theorem credit_s (h : Fin 2) : (sH h).view.dmaCredit = N := by match h with | 0 => rfl | 1 => rfl

/-! ## Contents -/

/-- Device `c`'s input block, as staged. -/
def xstg (c : Dev nD) : (cc0_stg0_0 : Ref sig .tc).ty.Contents (Elt F) :=
  (win0_0.blk (0 : Fin 1)).view.read (Elt F) ((s₀ m ρ).mem ((c : Thread nD τ).loc main_arg0))
/-- Device `c`'s table, as staged. -/
def tstg (c : Dev nD) : (cc0_stg1_0 : Ref sig .tc).ty.Contents (Elt F) :=
  (win0_1.blk (0 : Fin 1)).view.read (Elt F) ((s₀ m ρ).mem ((c : Thread nD τ).loc main_arg1))
/-- What device `c`'s result staging buffer holds at the end: the input block of the device it receives from. -/
def landed (c : Dev nD) : (cc0_stg2_0 : Ref sig .tc).ty.Contents (Elt F) := xstg m ρ (src σ c)

/-- Half `h` of device `c`'s result staging buffer, at the contents `f`. -/
def outPts (h : Fin 2) (c : Dev nD) (f : (cc0_stg2_0 : Ref sig .tc).ty.Contents (Elt F)) : sProp 𝕄 :=
  (oH h).view.loc (c : Thread nD τ) ↦[(oH h).view.set]{fullShare} f
/-- Half `h` of device `c`'s send buffer, at the contents `f`. -/
def sndPts (h : Fin 2) (c : Dev nD) (f : (cc0_scratch0 : Ref sig .tc).ty.Contents (Elt F)) : sProp 𝕄 :=
  (sH h).view.loc (c : Thread nD τ) ↦[(sH h).view.set]{fullShare} f

omit [FloatOps F] in
instance outPts_storable (h : Fin 2) (c : Dev nD) (f) : BI.Storable (upEmb : UEmb _ 𝕄) (outPts (F := F) h c f) := by unfold outPts; infer_instance
omit [FloatOps F] in
instance sndPts_storable (h : Fin 2) (c : Dev nD) (f) : BI.Storable (upEmb : UEmb _ 𝕄) (sndPts (F := F) h c f) := by unfold sndPts; infer_instance

omit [FloatOps F] in
/-- The result's staging buffer is its two halves. -/
theorem out_halves (c : Dev nD) (f : (cc0_stg2_0 : Ref sig .tc).ty.Contents (Elt F)) :
    ((((c : Thread nD τ).loc cc0_stg2_0) ↦{fullShare} f : sProp 𝕄)) ⊣⊢ iprop(outPts 0 c f ∗ outPts 1 c f) := by
  unfold outPts
  rw [oH_set, oH_set, ← rect_union]
  exact pointsTo_union rect_disjoint
omit [FloatOps F] in
/-- The send buffer splits into its two halves, -/
theorem snd_halves (c : Dev nD) (f : (cc0_scratch0 : Ref sig .tc).ty.Contents (Elt F)) :
    ((((c : Thread nD τ).loc cc0_scratch0) ↦{fullShare} f : sProp 𝕄)) ⊢ iprop(sndPts 0 c f ∗ sndPts 1 c f) := by
  unfold sndPts
  rw [sH_set, sH_set, ← rect_union]
  exact (pointsTo_union rect_disjoint).1
omit [FloatOps F] in
/-- and the two halves, at whatever contents, make it whole again. -/
theorem snd_join (c : Dev nD) (f g : (cc0_scratch0 : Ref sig .tc).ty.Contents (Elt F)) :
    iprop(sndPts 0 c f ∗ sndPts 1 c g) ⊢ iprop(∃ w : Buf (Elt F) ((c : Thread nD τ).loc cc0_scratch0), ((c : Thread nD τ).loc cc0_scratch0) ↦{fullShare} w : sProp 𝕄) := by
  unfold sndPts
  rw [sH_set, sH_set]
  iintro H
  ihave H' := (pointsTo_join (ℓ := (c : Thread nD τ).loc cc0_scratch0) (q := fullShare) (f := f) (g := g) rect_disjoint) $$ H
  iexists _
  rw [rect_union]
  iexact H'

/-! ## The schedule -/

/-- What the barrier's signal hands to `d`: its target's result staging buffer and receive semaphores. -/
def barPay (d : Dev nD) : sProp 𝕄 :=
  iprop((∃ f, outPts 0 (tgt σ d) f) ∗ (∃ f, outPts 1 (tgt σ d) f) ∗ reached ER (recvCell 0 (tgt σ d)) 0 ∗ reached ER (recvCell 1 (tgt σ d)) 0)
/-- What the completions of half `h`'s copies hand over: the send buffer's half back, the half landed. -/
def sendPay (h : Fin 2) (c : Dev nD) : sProp 𝕄 := iprop(∃ f, sndPts h c f)
def recvPay (h : Fin 2) (d : Dev nD) : sProp 𝕄 := outPts h d (landed σ m ρ d)

/-- A cell's payload, by its semaphore. -/
def payOf (c : Dev nD) : SemLoc sig → sProp 𝕄
  | .reg _ => barPay σ c
  | .dma q => match q.val with
    | 3 => sendPay 0 c
    | 4 => sendPay 1 c
    | 5 => recvPay σ m ρ 0 c
    | 6 => recvPay σ m ρ 1 c
    | _ => iprop(emp)

/-- The semaphores of the protocol: the barrier, and the transfer semaphores past the three of the staging. -/
def live : SemLoc sig → Bool
  | .reg _ => true
  | .dma q => decide (3 ≤ q.val)
/-- A duty's units. -/
def unitsOf : SemLoc sig → ℕ
  | .reg _ => 1
  | .dma _ => N
theorem unitsOf_pos (s : SemLoc sig) : 0 < unitsOf s := by
  cases s
  · exact Nat.one_pos
  · exact N_pos

def sched : Rounds.Schedule (GSem nD τ sig) Unit 𝕄 where
  duties g r := if r = 0 ∧ g.1.2 = .tc ∧ live g.2 = true then {()} else ∅
  unitless _ := False
  amount g _ _ := unitsOf g.2
  payload g _ _ := payOf σ m ρ g.1.1 g.2
  amount_pos g _ _ _ := unitsOf_pos g.2

instance sched_payload_storable (g : GSem nD τ sig) (r : ℕ) (d : Unit) :
    BI.Storable (upEmb : UEmb _ 𝕄) ((sched (F := F) σ m ρ).payload g r d) := by
  show BI.Storable upEmb (payOf σ m ρ g.1.1 g.2)
  unfold payOf barPay sendPay recvPay
  split
  · infer_instance
  · split <;> infer_instance

section Sched
variable (c : Dev nD) (s : SemLoc sig)

omit [FloatOps F] in
theorem duties_live (hs : live s = true) : (sched (F := F) σ m ρ).duties (cellAt c s) 0 = {()} := if_pos ⟨rfl, rfl, hs⟩
omit [FloatOps F] in
theorem mem_duties (hs : live s = true) : () ∈ (sched (F := F) σ m ρ).duties (cellAt c s) 0 := by
  rw [duties_live σ m ρ c s hs]; exact Finset.mem_singleton_self _
omit [FloatOps F] in
theorem duties_later (g : GSem nD τ sig) : ∀ r, 1 ≤ r → (sched (F := F) σ m ρ).duties g r = ∅ :=
  fun r hr => if_neg fun h => by have := h.1; omega
omit [FloatOps F] in
theorem expect_live (hs : live s = true) : (sched (F := F) σ m ρ).expect (cellAt c s) 0 = unitsOf s := by
  unfold Schedule.expect Schedule.amountOf
  rw [duties_live σ m ρ c s hs, Finset.sum_singleton]; rfl
omit [FloatOps F] in
/-- What a wait on the whole of a cell's round takes: its payload. -/
theorem rest_live (hs : live s = true) :
    bigSep ((sched (F := F) σ m ρ).duties (cellAt c s) 0 \ ∅) (fun d => (sched (F := F) σ m ρ).payload (cellAt c s) 0 d) = payOf σ m ρ c s := by
  rw [Finset.sdiff_empty, duties_live σ m ρ c s hs, bigSep_singleton]; rfl

end Sched

theorem live_send (h : Fin 2) : live (.dma (sendS h)) = true := by match h with | 0 => rfl | 1 => rfl
theorem live_recv (h : Fin 2) : live (.dma (recvS h)) = true := by match h with | 0 => rfl | 1 => rfl
omit [FloatOps F] in
theorem payOf_send (h : Fin 2) (c : Dev nD) : payOf (F := F) σ m ρ c (.dma (sendS h)) = sendPay h c := by match h with | 0 => rfl | 1 => rfl
omit [FloatOps F] in
theorem payOf_recv (h : Fin 2) (c : Dev nD) : payOf (F := F) σ m ρ c (.dma (recvS h)) = recvPay σ m ρ h c := by match h with | 0 => rfl | 1 => rfl

/-! ## What each device owes; the levels -/

/-- Device `c` owes its target the completions of the two halves, and its source a signal; the last summand is paid first. -/
def O₂ (c : Dev nD) : CellTallies nD τ sig Unit := 0 + tallyAt (recvCell 1 (tgt σ c)) () N
def O₁ (c : Dev nD) : CellTallies nD τ sig Unit := O₂ σ c + tallyAt (recvCell 0 (tgt σ c)) () N
def O₀ (c : Dev nD) : CellTallies nD τ sig Unit := O₁ σ c + tallyAt (barCell (src σ c)) () 1

def L (g : GSem nD τ sig) : Finset Unit := if g.1.2 = .tc then {()} else ∅
/-- Staging and send semaphores lowest, the barrier above them, the receive semaphores highest. -/
def lvOf : SemLoc sig → ℕ
  | .reg _ => 1
  | .dma q => if 5 ≤ q.val then 2 else 0
def lv (g : GSem nD τ sig) (_ : Unit) : ℕ := lvOf g.2

theorem L_of_ne (g : GSem nD τ sig) (h : g.1.2 ≠ .tc) : L g = ∅ := if_neg h
theorem L_tc (c : Dev nD) (s : SemLoc sig) : L (cellAt c s) = {()} := if_pos rfl

/-- What device `d` owes any cell, spelt out. -/
theorem owed_apply (d : Dev nD) (g : GSem nD τ sig) (u : Unit) : O₀ σ d g u
    = ((if g = recvCell 1 (tgt σ d) then N else 0) + (if g = recvCell 0 (tgt σ d) then N else 0)) + (if g = barCell (src σ d) then 1 else 0) := by
  unfold O₀ O₁ O₂
  simp only [Pi.add_apply, Finsupp.add_apply, tallyAt_apply, and_true, zero_add]
theorem O₁_pos {c : Dev nD} {g : GSem nD τ sig} {u : Unit} (h : 0 < O₁ σ c g u) :
    g = recvCell 1 (tgt σ c) ∨ g = recvCell 0 (tgt σ c) := by
  unfold O₁ O₂ at h
  simp only [Pi.add_apply, Finsupp.add_apply, tallyAt_apply, and_true, zero_add] at h
  by_contra hn; rw [not_or] at hn
  rw [if_neg hn.1, if_neg hn.2] at h
  exact Nat.lt_irrefl 0 h
theorem O₀_pos {c : Dev nD} {g : GSem nD τ sig} {u : Unit} (h : 0 < O₀ σ c g u) :
    (g = recvCell 1 (tgt σ c) ∨ g = recvCell 0 (tgt σ c)) ∨ g = barCell (src σ c) := by
  rw [owed_apply] at h
  by_contra hn; rw [not_or, not_or] at hn
  rw [if_neg hn.1.1, if_neg hn.1.2, if_neg hn.2] at h
  exact Nat.lt_irrefl 0 h

/-- The level of anything owed is positive, and of a receive cell 2. -/
theorem lv_owed {c : Dev nD} {g : GSem nD τ sig} {u : Unit} (h : 0 < O₀ σ c g u) : 0 < lv g u ∧ () ∈ L g := by
  rcases O₀_pos σ h with (rfl | rfl) | rfl <;> exact ⟨Nat.succ_pos _, Finset.mem_singleton_self _⟩
theorem lv_recv {c : Dev nD} {g : GSem nD τ sig} {u : Unit} (h : 0 < O₁ σ c g u) : 1 < lv g u ∧ () ∈ L g := by
  rcases O₁_pos σ h with rfl | rfl <;> exact ⟨Nat.lt_succ_self _, Finset.mem_singleton_self _⟩

omit [FloatOps F] in
/-- A staging semaphore may be waited on owing what the device owes at entry, or nothing. -/
theorem mayWait_stage (c : Dev nD) (q : DmaSem sig) (hq : lvOf (.dma q) = 0) (O : CellTallies nD τ sig Unit) (hO : O = O₀ σ c ∨ O = 0) :
    (levAts L lv : sProp 𝕄) ⊢ MayWait (c : Thread nD τ) (.dma q) () O := by
  rcases hO with rfl | rfl
  · exact MayOwe.of_cut (L := L) (lev := lv) 0 (fun p hp => by rw [Finset.mem_singleton.mp hp]; exact Finset.mem_singleton_self _)
      (fun g u hg => (lv_owed σ hg).2)
      (fun p hp => by rw [Finset.mem_singleton.mp hp]; exact hq.le)
      (fun g u hg => (lv_owed σ hg).1)
  · rw [MayWait_zero]; iintro -; iempintro
omit [FloatOps F] in
/-- The barrier may be waited on owing the two receive completions. -/
theorem mayWait_bar (c : Dev nD) : (levAts L lv : sProp 𝕄) ⊢ MayWait (c : Thread nD τ) (.reg barS) () (O₁ σ c) :=
  MayOwe.of_cut (L := L) (lev := lv) 1 (fun p hp => by rw [Finset.mem_singleton.mp hp]; exact Finset.mem_singleton_self _)
    (fun g u hg => (lv_recv σ hg).2)
    (fun p hp => by rw [Finset.mem_singleton.mp hp]; exact Nat.le_refl _)
    (fun g u hg => (lv_recv σ hg).1)

/-! ## The proof data of the launch -/

/-- Every cell's invariant and that every cell is at round 0 or later: known to all. -/
def records (K : Dev nD × Fin 5 → ℕ) : sProp 𝕄 :=
  iprop((bigSep Finset.univ fun ck : Dev nD × Fin 5 => cellInv ER (sched σ m ρ) (K ck) (kcell ck))
    ∗ bigSep Finset.univ fun ck : Dev nD × Fin 5 => reached ER (kcell ck) 0)
instance records_persistent (K : Dev nD × Fin 5 → ℕ) : BI.Persistent (records σ m ρ K) := by unfold records; infer_instance

/-- The place of half `h`'s semaphores among a device's cells. -/
abbrev sIx : Fin 2 → Fin 5
  | 0 => 1
  | 1 => 2
abbrev rIx : Fin 2 → Fin 5
  | 0 => 3
  | 1 => 4

omit [FloatOps F] in
theorem inv_at (K : Dev nD × Fin 5 → ℕ) (c : Dev nD) (k : Fin 5) : records σ m ρ K ⊢ cellInv ER (sched σ m ρ) (K (c, k)) (kcell (c, k)) := by
  unfold records; iintro ⟨H, -⟩; iapply (show (bigSep Finset.univ fun ck : Dev nD × Fin 5 => (cellInv ER (sched σ m ρ) (K ck) (kcell ck) : sProp 𝕄)) ⊢ cellInv ER (sched σ m ρ) (K (c, k)) (kcell (c, k)) from bigSep_elim (Finset.mem_univ (c, k))); iexact H
omit [FloatOps F] in
theorem reached_at (K : Dev nD × Fin 5 → ℕ) (c : Dev nD) (k : Fin 5) : records σ m ρ K ⊢ reached ER (kcell (c, k)) 0 := by
  unfold records; iintro ⟨-, H⟩; iapply (show (bigSep Finset.univ fun ck : Dev nD × Fin 5 => (reached ER (kcell ck) 0 : sProp 𝕄)) ⊢ reached ER (kcell (c, k)) 0 from bigSep_elim (Finset.mem_univ (c, k))); iexact H
omit [FloatOps F] in
theorem inv_send (K : Dev nD × Fin 5 → ℕ) (h : Fin 2) (c : Dev nD) : records σ m ρ K ⊢ cellInv ER (sched σ m ρ) (K (c, sIx h)) (sendCell h c) := by
  match h with
  | 0 => exact inv_at σ m ρ K c 1
  | 1 => exact inv_at σ m ρ K c 2
omit [FloatOps F] in
theorem inv_recv (K : Dev nD × Fin 5 → ℕ) (h : Fin 2) (c : Dev nD) : records σ m ρ K ⊢ cellInv ER (sched σ m ρ) (K (c, rIx h)) (recvCell h c) := by
  match h with
  | 0 => exact inv_at σ m ρ K c 3
  | 1 => exact inv_at σ m ρ K c 4
omit [FloatOps F] in
theorem reached_send (K : Dev nD × Fin 5 → ℕ) (h : Fin 2) (c : Dev nD) : records σ m ρ K ⊢ reached ER (sendCell h c) 0 := by
  match h with
  | 0 => exact reached_at σ m ρ K c 1
  | 1 => exact reached_at σ m ρ K c 2
omit [FloatOps F] in
theorem reached_recv (K : Dev nD × Fin 5 → ℕ) (h : Fin 2) (c : Dev nD) : records σ m ρ K ⊢ reached ER (recvCell h c) 0 := by
  match h with
  | 0 => exact reached_at σ m ρ K c 3
  | 1 => exact reached_at σ m ρ K c 4

/-- The tokens device `c` pays with: its source's barrier, its target's receive cells, its own send cells. -/
def payToks (c : Dev nD) : sProp 𝕄 :=
  iprop(dutyTok ER (barCell (src σ c)) 0 () ∗ dutyTok ER (recvCell 0 (tgt σ c)) 0 () ∗ dutyTok ER (recvCell 1 (tgt σ c)) 0 ()
    ∗ dutyTok ER (sendCell 0 c) 0 () ∗ dutyTok ER (sendCell 1 c) 0 ())
/-- Device `c`'s place in its own five cells. -/
def places (c : Dev nD) : sProp 𝕄 :=
  iprop(atPos ER (barCell c) 0 ∅ 0 ∗ atPos ER (sendCell 0 c) 0 ∅ 0 ∗ atPos ER (sendCell 1 c) 0 ∅ 0
    ∗ atPos ER (recvCell 0 c) 0 ∅ 0 ∗ atPos ER (recvCell 1 c) 0 ∅ 0)
def ghost (K : Dev nD × Fin 5 → ℕ) (c : Dev nD) : sProp 𝕄 := iprop(records σ m ρ K ∗ places c ∗ payToks σ c)

/-- The credit device `c` waits with: for its barrier and its two receive cells. -/
def startCred (c : Dev nD) : sProp 𝕄 :=
  iprop(cred (tallyAt (barCell c) () 1) ∗ cred (tallyAt (recvCell 0 c) () N) ∗ cred (tallyAt (recvCell 1 c) () N))
def start (c : Dev nD) : sProp 𝕄 := iprop((∃ K, ghost σ m ρ K c) ∗ startCred c ∗ levAts L lv)

/-- The send buffer, at some contents. -/
def sbuf (c : Dev nD) : sProp 𝕄 := iprop(∃ f : Buf (Elt F) ((c : Thread nD τ).loc cc0_scratch0), ((c : Thread nD τ).loc cc0_scratch0) ↦{fullShare} f)
/-- The five counters back at zero. -/
def zeros (c : Dev nD) : sProp 𝕄 :=
  iprop(semVal (barCell c) 0 ∗ semVal (sendCell 0 c) 0 ∗ semVal (sendCell 1 c) 0 ∗ semVal (recvCell 0 c) 0 ∗ semVal (recvCell 1 c) 0)

def Φ₀ (c : Dev nD) : sProp 𝕄 := iprop(start σ m ρ c ∗ sbuf c)
def Φ₁ (c : Dev nD) : sProp 𝕄 := iprop(sbuf c ∗ zeros c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => tstg m ρ c
    | ⟨2, _⟩ => landed σ m ρ c
  Φ t := match t with
    | ⟨0, _⟩ => Φ₀ σ m ρ c
    | ⟨_ + 1, _⟩ => Φ₁ c
  q _ := fullShare
  owed t := match t with
    | ⟨0, _⟩ => O₀ σ c
    | ⟨_ + 1, _⟩ => 0

abbrev 𝒱₀ : Variants := Variants.none

end Cert.PermRows

end
-- ==== Proof.Body.lean ====
/-
# One device's run of the kernel

The kernel's body, executed at a symbolic device `c` whose table is the permutation `σ`: from what the device holds at
entry to the result's staging buffer holding the input block of `src σ c`.
-/
module

public import proofs.«01_k».proof.Proof.Protocol

@[expose] public section

noncomputable section

namespace Cert.PermRows

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (σ : Equiv.Perm (Fin 4)) (m : (ℓ : Loc nD τ sig) → Buf (Elt F) ℓ) (ρ : Dev nD → PrngReg)

/-! ## The table's words -/

/-- Every device's table is the permutation `σ`. -/
def IsTable : Prop := ∀ (c : Dev nD) (i : S4.Idx), m ((c : Thread nD τ).loc main_arg1) i = word (σ (i (0 : Fin 1)))

/-- The index of word `k` of the table. -/
def ix (k : Fin 4) : S4.Idx := fun a => match a with | 0 => k

/-- The word the kernel loads at the offset `o` of a table `ts`. -/
abbrev wordAt (o : Fin 1 → Nat) (inb : ∀ a, o a + S1.size a ≤ S4.size a) (ts : (cc0_stg1_0 : Ref sig .tc).ty.Contents (Elt F)) : BitVec 32 :=
  (tM.access (Rect.unit (s := S4) o S1.size inb) : View sig .tc _ _ _).read (Elt F) ts (Shape.Idx.first (s := S1) (numel1_S1.symm ▸ Nat.one_pos))

omit [FloatOps F] in
theorem wordAt_eq (o : Fin 1 → Nat) (inb : ∀ a, o a + S1.size a ≤ S4.size a) (ts : (cc0_stg1_0 : Ref sig .tc).ty.Contents (Elt F))
    (k : Fin 4) (hk : o 0 = k.val) : wordAt o inb ts = ts (ix k) := by
  refine congrArg ts (funext fun a => Fin.ext ?_)
  match a with
  | 0 => show o 0 + 1 * 0 = k.val; omega

omit [FloatOps F] in
theorem tstg_apply (c : Dev nD) (i : S4.Idx) : tstg m ρ c i = m ((c : Thread nD τ).loc main_arg1) i := by
  refine congrArg (m ((c : Thread nD τ).loc main_arg1)) (funext fun a => Fin.ext ?_)
  match a with
  | 0 => show 0 * 4 + 1 * (i (0 : Fin 1)).val = (i (0 : Fin 1)).val; omega

variable {σ m} in
omit [FloatOps F] in
/-- On a permutation's table the kernel loads the permutation's words. -/
theorem IsTable.word (ht : IsTable σ m) (c : Dev nD) (o : Fin 1 → Nat) (inb : ∀ a, o a + S1.size a ≤ S4.size a) (k : Fin 4) (hk : o 0 = k.val) :
    wordAt o inb (tstg m ρ c) = PermRows.word (σ k) := by
  rw [wordAt_eq o inb _ k hk, tstg_apply, ht c]; rfl

theorem off1_zc (c : Dev nD) : k0_off1 c 0 = (zc c).val := by rw [k0_off1_eq]; rfl

/-- The two copies' target and the signal's, from words known to be the permutation's. -/
theorem dev2_tgt (c : Dev nD) (v : BitVec 32) (hv : v = word (σ (zc c))) (hw : k0_chk2 c v) : (⟨k0_dev2 c v, k0_dev2_lt c v hw⟩ : Dev nD) = tgt σ c := by
  subst hv; exact Fin.ext (dev2_word c _)
theorem dev3_tgt (c : Dev nD) (v : BitVec 32) (hv : v = word (σ (zc c))) (hw : k0_chk2 c v) : (⟨k0_dev3 c v, k0_dev3_lt c v hw⟩ : Dev nD) = tgt σ c := by
  subst hv; exact Fin.ext (dev3_word c _)
theorem dev1_src (c : Dev nD) (v₀ v₁ v₂ v₃ : BitVec 32) (h₀ : v₀ = word (σ 0)) (h₁ : v₁ = word (σ 1)) (h₂ : v₂ = word (σ 2)) (h₃ : v₃ = word (σ 3))
    (hw : k0_chk1 c v₀ v₁ v₂ v₃) : (⟨k0_dev1 c v₀ v₁ v₂ v₃, k0_dev1_lt c v₀ v₁ v₂ v₃ hw⟩ : Dev nD) = src σ c := by
  subst h₀ h₁ h₂ h₃; exact Fin.ext (dev1_words c σ)

/-! ## The steps of the protocol -/

section Steps

variable (K : Dev nD × Fin 5 → ℕ)

/-- The signal to the source's barrier: hands over this device's result staging buffer and pays the entry's last debt. -/
theorem wp_signal_src (c n : Dev nD) (hn : n = src σ c) (W : Waits sig Unit)
    (f : (cc0_stg2_0 : Ref sig .tc).ty.Contents (Elt F)) {α : Type} {Q : α → sProp 𝕄} {k : PUnit → Prog (TpuEff nD τ sig (Elt F) Λ₀ .tc) α} :
    iprop(records σ m ρ K ∗ owes (c : Thread nD τ) (O₀ σ c) W ∗ dutyTok ER (barCell (src σ c)) 0 () ∗ outPts 0 c f ∗ outPts 1 c f)
      ⊢ iprop((owes (c : Thread nD τ) (O₁ σ c) W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (Dev.tc n : Thread nD τ) barS (1#32).toNat) k) Q) := by
  subst hn
  iintro ⟨#HR, HO, Ht, H0, H1⟩
  unfold O₀
  iapply (Rounds.wp_signal 𝒱₀ ER (sched σ m ρ) (c : Thread nD τ) none (dst := (src σ c : Thread nD τ)) (κ := K (src σ c, 0))
      (d := ()) (mem_duties σ m ρ (src σ c) (.reg barS) rfl) (show unitsOf (.reg barS) = (1#32).toNat from rfl) () (O₁ σ c) rfl)
  isplitr; · iapply (inv_at σ m ρ K (src σ c) 0); iexact HR
  isplitl [HO]; · iexact HO
  isplitl [Ht]; · iexact Ht
  isplitl [H0 H1]
  · rw [show (sched (F := F) σ m ρ).payload (barCell (src σ c)) 0 () = barPay σ (src σ c) from rfl]
    unfold barPay; rw [tgt_src]
    isplitl [H0]; · iexists f; iexact H0
    isplitl [H1]; · iexists f; iexact H1
    isplitr
    · iapply (reached_recv σ m ρ K 0 c); iexact HR
    · iapply (reached_recv σ m ρ K 1 c); iexact HR
  · iapply (reached_at σ m ρ K (src σ c) 0); iexact HR

/-- The wait on the device's own barrier: brings the target's result staging buffer. -/
theorem wp_wait_bar (c : Dev nD) (W : Waits sig Unit) {α : Type} {Q : α → sProp 𝕄} {k : PUnit → Prog (TpuEff nD τ sig (Elt F) Λ₀ .tc) α} :
    iprop(records σ m ρ K ∗ levAts L lv ∗ cred (tallyAt (barCell c) () 1) ∗ owes (c : Thread nD τ) (O₁ σ c) W ∗ atPos ER (barCell c) 0 ∅ 0)
      ⊢ iprop(((owes (c : Thread nD τ) (O₁ σ c) (insert (SemLoc.reg barS, ()) W) ∗ atPos ER (barCell c) (0 + 1) ∅ 0 ∗ barPay σ c)
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS (1#32).toNat) k) Q) := by
  iintro ⟨#HR, #Hlev, Hc, HO, Hat⟩ Hk
  iapply (Rounds.wp_wait_rest_token 𝒱₀ ER (sched σ m ρ) (c : Thread nD τ) none (κ := K (c, 0))
      (wpE_semWait_eq 𝒱₀ (c : Thread nD τ) none Set.univ) (Set.mem_univ _) () (O := O₁ σ c) (W := W) (R := 0) (m := 0) (T := ∅)
      (by rw [expect_live σ m ρ c _ rfl]; rfl)) $$ [Hc HO Hat]
  · isplitr; · iapply (inv_at σ m ρ K c 0); iexact HR
    isplitl [Hc]; · iexact Hc
    isplitl [HO]; · iexact HO
    isplitr; · iapply (mayWait_bar σ c); iexact Hlev
    iexact Hat
  iintro ⟨HO, Hat, -, Hpay⟩
  iapply Hk
  isplitl [HO]; · iexact HO
  isplitl [Hat]; · iexact Hat
  iapply (Entails.of_eq ((rest_live σ m ρ c (.reg barS) rfl).trans (show payOf σ m ρ c (.reg barS) = barPay σ c from rfl))); iexact Hpay

/-- The copy of half `h` to the target `n`, from a send buffer whose half holds half `h` of the input block (`hfs`). -/
theorem wp_send_half (h : Fin 2) (c n : Dev nD) (hn : n = tgt σ c) {hsc : (oH h).view.ref.isScScratch = false}
    {hsrc : (sH h).view.WordExact} {hdst : (oH h).view.WordExact}
    {hsem : DmaTarget.Typed .vmem (.dma (recvS h)) (.remote (Dev.tc n : Thread nD τ) (oH h) (.dma (sendS h)) hsc)}
    (O : CellTallies nD τ sig Unit) (W : Waits sig Unit) (fs : (cc0_scratch0 : Ref sig .tc).ty.Contents (Elt F)) (fd : (cc0_stg2_0 : Ref sig .tc).ty.Contents (Elt F))
    (hfs : ∀ i ∈ (oH h).view.set, (oH h).view.write (Elt F) fd ((sH h).view.read (Elt F) fs) Finset.univ i = xstg m ρ c i)
    {α : Type} {Q : α → sProp 𝕄} {k : PUnit → Prog (TpuEff nD τ sig (Elt F) Λ₀ .tc) α} :
    iprop(records σ m ρ K ∗ sndPts h c fs ∗ outPts h (tgt σ c) fd ∗ owes (c : Thread nD τ) (O + tallyAt (recvCell h (tgt σ c)) () N) W
        ∗ dutyTok ER (sendCell h c) 0 () ∗ dutyTok ER (recvCell h (tgt σ c)) 0 ())
      ⊢ iprop(((cred (tallyAt (sendCell h c) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (sH h) (.remote (Dev.tc n : Thread nD τ) (oH h) (.dma (sendS h)) hsc) (.dma (recvS h)) hsrc hdst hsem) k) Q) := by
  subst hn
  iintro ⟨#HR, Hs, Ho, HO, HtS, HtV⟩
  unfold sndPts outPts
  iapply (Rounds.wp_send_pointsTo 𝒱₀ ER (sched σ m ρ) (c : Thread nD τ) none (κ₁ := K (c, sIx h)) (κ₂ := K (tgt σ c, rIx h))
    (r₁ := 0) (r₂ := 0) (d₁ := ()) (d₂ := ()) (fd := fd)
    (mem_duties σ m ρ c _ (live_send h)) (mem_duties σ m ρ (tgt σ c) _ (live_recv h))
    () () N (credit_o h) rfl rfl O rfl (W := W)
    (by rw [show (sched (F := F) σ m ρ).payload (sendCell h c) 0 () = payOf σ m ρ c (.dma (sendS h)) from rfl, payOf_send]
        unfold sendPay sndPts; iintro H; iexists fs; iexact H)
    (by rw [show (sched (F := F) σ m ρ).payload (recvCell h (tgt σ c)) 0 () = payOf σ m ρ (tgt σ c) (.dma (recvS h)) from rfl, payOf_recv]
        unfold recvPay outPts landed; rw [src_tgt]
        exact Entails.of_eq (pointsTo_congr hfs)))
  isplitr; · iapply (inv_send σ m ρ K h c); iexact HR
  isplitr; · iapply (inv_recv σ m ρ K h (tgt σ c)); iexact HR
  isplitl [Hs]; · iexact Hs
  isplitl [Ho]; · iexact Ho
  isplitl [HO]; · iexact HO
  isplitl [HtS]; · iexact HtS
  isplitr; · iapply (reached_send σ m ρ K h c); iexact HR
  isplitl [HtV]; · iexact HtV
  iapply (reached_recv σ m ρ K h (tgt σ c)); iexact HR

/-- Half `h` of the send buffer is read, the value unused, and overwritten by `w`. -/
theorem wp_fill_half (h : Fin 2) (c : Dev nD) (f : (cc0_scratch0 : Ref sig .tc).ty.Contents (Elt F)) {w : (rect h).shape.Idx → Elt F .bf16}
    {hl : sM.view.LoadsAt (rect h).toLoadRect} {hx : (sM.access (rect h)).Stores Finset.univ} {hm : (Finset.univ : Finset (rect h).shape.Idx) = Finset.univ ∨ ∀ a, (rect h).stride a = 1}
    {α : Type} {Q : α → sProp 𝕄} {k : PUnit → Prog (TpuEff nD τ sig (Elt F) Λ₀ .tc) α} :
    sndPts h c f
      ⊢ iprop((sndPts h c ((sM.access (rect h)).write (Elt F) f w Finset.univ) -∗ wp frame (wpE (defs₀ (F := F)) 𝒱₀ (c : Thread nD τ) none) Set.univ (k ⟨⟩) Q)
          -∗ wp frame (wpE (defs₀ (F := F)) 𝒱₀ (c : Thread nD τ) none) Set.univ
              (.op (.load sM (rect h).toLoadRect hl) fun _ => .op (.store sM (rect h) w Finset.univ hx hm) k) Q) := by
  unfold sndPts
  iintro Hs Hk
  iapply (wp_load 𝒱₀ (c : Thread nD τ) none Set.univ (m := sM) (S := (sH h).view.set) (View.set_slice _ _).ge) $$ Hs; iintro Hs
  iapply (wp_store 𝒱₀ (c : Thread nD τ) none Set.univ (m := sM) (r := rect h) (Mk := Finset.univ) (S := (sH h).view.set) (Finset.Subset.refl _)) $$ Hs; iintro Hs
  iapply Hk; iexact Hs

/-- A wait on one of the device's own transfer semaphores, owing nothing: brings the cell's payload. -/
theorem wp_wait_dma (c : Dev nD) (q : DmaSem sig) (hq : live (.dma q) = true) (κ : ℕ) (W : Waits sig Unit)
    {src dst : Memref sig .tc .vmem S1x128x256 .bf16} {hsrc : src.view.WordExact} {hdst : dst.view.WordExact} (hN : dst.view.dmaCredit = N)
    {α : Type} {Q : α → sProp 𝕄} {k : PUnit → Prog (TpuEff nD τ sig (Elt F) Λ₀ .tc) α} :
    iprop(cellInv ER (sched σ m ρ) κ (cellAt c (.dma q)) ∗ cred (tallyAt (cellAt c (.dma q)) () N) ∗ owes (c : Thread nD τ) 0 W ∗ atPos ER (cellAt c (.dma q)) 0 ∅ 0)
      ⊢ iprop(((owes (c : Thread nD τ) 0 (insert (SemLoc.dma q, ()) W) ∗ atPos ER (cellAt c (.dma q)) (0 + 1) ∅ 0 ∗ payOf σ m ρ c (.dma q))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst hsrc hdst) k) Q) := by
  iintro ⟨#HI, Hc, HO, Hat⟩ Hk
  iapply (Rounds.wp_wait_rest_token 𝒱₀ ER (sched σ m ρ) (c : Thread nD τ) none (κ := κ)
      (wpE_waitDma2_eq 𝒱₀ (c : Thread nD τ) none Set.univ) (Set.mem_univ _) () (O := 0) (W := W) (R := 0) (m := 0) (T := ∅)
      (by rw [Nat.zero_add, hN, expect_live σ m ρ c _ hq]; rfl)) $$ [Hc HO Hat]
  · isplitr; · iexact HI
    isplitl [Hc]; · iexact Hc
    isplitl [HO]; · iexact HO
    isplitr; · rw [MayWait_zero]; iempintro
    iexact Hat
  iintro ⟨HO, Hat, -, Hpay⟩
  iapply Hk
  isplitl [HO]; · iexact HO
  isplitl [Hat]; · iexact Hat
  iapply (Entails.of_eq (rest_live σ m ρ c (.dma q) hq)); iexact Hpay

omit [FloatOps F] in
/-- A cell past its one round closes, its counter at zero. -/
theorem close_cell (c : Dev nD) (k : Fin 5) :
    iprop(records σ m ρ K ∗ atPos ER (kcell (c, k)) (0 + 1) ∅ 0) ⊢ |={Set.univ}=> semVal (kcell (c, k)) 0 := by
  iintro ⟨#HR, Hat⟩
  iapply (Rounds.cell_close ER (sched σ m ρ) (Set.mem_univ (K (c, k))) (fun h => h) (R := 0 + 1) (duties_later σ m ρ (kcell (c, k))))
  isplitr; · iapply (inv_at σ m ρ K c k); iexact HR
  iexact Hat

end Steps

end Cert.PermRows

end
-- ==== Proof.Run.lean ====
/-
# The kernel's body from entry to exit
-/
module

public import proofs.«01_k».proof.Proof.Body

@[expose] public section

noncomputable section

namespace Cert.PermRows

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (σ : Equiv.Perm (Fin 4)) (m : (ℓ : Loc nD τ sig) → Buf (Elt F) ℓ) (ρ : Dev nD → PrngReg)

/-! ## The one grid point -/

theorem cfg0_N : cfg0.N = 1 := by decide
def t₀ : Fin cfg0.N := ⟨0, by rw [cfg0_N]; decide⟩
theorem fin_N (t : Fin cfg0.N) : t = t₀ := by obtain ⟨t, ht⟩ := t; have := cfg0_N; exact Fin.ext (by simp only [t₀]; omega)

theorem fetch_x (t : Fin cfg0.N) : (cfg0.win (0 : Fin 3)).fetch t = true := by rw [fin_N t]; rfl
theorem fetch_t (t : Fin cfg0.N) : (cfg0.win (1 : Fin 3)).fetch t = true := by rw [fin_N t]; rfl

omit [FloatOps F] in
theorem bigSep_W (Φ : Fin cfg0.W → sProp 𝕄) : bigSep Finset.univ Φ = iprop(Φ (0 : Fin 3) ∗ Φ (1 : Fin 3) ∗ Φ (2 : Fin 3)) := bigSep_W0 Φ

/-- A whole buffer `b` of device `c` holding `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns stg; simp only [Memref.view_whole, View.read_whole, View.set_whole]

/-! ## The body -/

section Body

variable (K : Dev nD × Fin 5 → ℕ)

/-- What the device holds at entry, -/
def bodyPre (c : Dev nD) : sProp 𝕄 :=
  iprop((ghost σ m ρ K c ∗ startCred c ∗ levAts L lv ∗ sbuf c)
    ∗ (dats σ m ρ 0 c).owesAt () t₀.castSucc
    ∗ (∃ d, stg c cc0_stg0_0 ((dats σ m ρ 0 c).before (0 : Fin 3) t₀ d))
    ∗ (∃ d, stg c cc0_stg1_0 ((dats σ m ρ 0 c).before (1 : Fin 3) t₀ d))
    ∗ (∃ d, stg c cc0_stg2_0 ((dats σ m ρ 0 c).before (2 : Fin 3) t₀ d)))
/-- and at exit. -/
def bodyPost (c : Dev nD) : sProp 𝕄 :=
  iprop(Φ₁ c ∗ (dats σ m ρ 0 c).owesAt () t₀.succ ∗ stg c cc0_stg0_0 (xstg m ρ c) ∗ stg c cc0_stg1_0 (tstg m ρ c) ∗ stg c cc0_stg2_0 (landed σ m ρ c))

set_option maxHeartbeats 4000000 in
/-- The body on a permutation's table, one rule per effect in program order. -/
theorem sound_body (ht : IsTable σ m) (c : Dev nD) (Kt : PUnit → sProp 𝕄) :
    iprop(bodyPre σ m ρ K c ∗ (bodyPost σ m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_scratch0) (Memref.isWhole_whole _) cc0_scratch1 cc0_scratch2) Kt := by
  simp only [cc0_body_eq_skeleton]; unfold cc0_body_skel
  simp only [k0_part1_eq_skeleton, k0_part2_eq_skeleton, k0_part3_eq_skeleton]
  unfold k0_part1_skel k0_part2_skel k0_part3_skel
  simp only [semSignalWord, semWaitWord, smemLoad, smemLoadElt, Prog.lift, Prog.bind_op, Prog.bind_ret, Prog.pure_eq_ret, Prog.bind_assoc, wp_deviceId]
  simp only [slice_send0, slice_send1, slice_recv0, slice_recv1]
  unfold bodyPre ghost places payToks startCred sbuf
  iintro ⟨⟨⟨⟨#HR, ⟨HaB, HaS0, HaS1, HaV0, HaV1⟩, HtB, HtV0, HtV1, HtS0, HtS1⟩, ⟨HcB, HcV0, HcV1⟩, #Hlev, ⟨%fs, Hs⟩⟩,
    Ho, ⟨%d0, %g0, %hg0, Hx⟩, ⟨%d1, %g1, %hg1, Ht⟩, ⟨%d2, %g2, %hg2, Hout⟩⟩, Hk⟩
  have hx : g0 = xstg m ρ c := by rw [hg0]; unfold Dat.before; rw [if_pos (fetch_x t₀)]; rfl
  subst hx
  have htb : g1 = tstg m ρ c := by rw [hg1]; unfold Dat.before; rw [if_pos (fetch_t t₀)]; rfl
  subst htb
  unfold Dat.owesAt Pipeline.owesWithin
  icases Ho with ⟨%W, %hW, HO⟩
  rw [show (dats σ m ρ 0 c).owed t₀.castSucc = O₀ σ c from rfl]
  -- the table's words
  have w10 := ht.word ρ c (k0_off1 c) (k0_off1_inb c) (zc c) (off1_zc c)
  have w0 := ht.word ρ c ![0] inb_S4_S1_0 0 rfl
  have w1 := ht.word ρ c ![1] inb_S4_S1_1 1 rfl
  have w2 := ht.word ρ c ![2] inb_S4_S1_2 2 rfl
  have w3 := ht.word ρ c ![3] inb_S4_S1_3 3 rfl
  have hc2 : k0_chk2 c (wordAt (k0_off1 c) (k0_off1_inb c) (tstg m ρ c)) := by rw [w10]; exact chk2_word c _
  -- the table's word at the device's coordinate, and the check that it names a device
  iapply (wp_load_rect 𝒱₀ (c : Thread nD τ) none Set.univ (m := tM) (r := Rect.unit (s := S4) (k0_off1 c) S1.size (k0_off1_inb c)) (Finset.subset_univ _)) $$ Ht; iintro Ht
  simp only [wp_assume_of _ _ _ _ (d := k0_chk2.dec _ _) hc2]
  -- all four words, and the check that the place found in them is a device
  iapply (wp_load_rect 𝒱₀ (c : Thread nD τ) none Set.univ (m := tM) (r := Rect.unit (s := S4) ![0] S1.size inb_S4_S1_0) (Finset.subset_univ _)) $$ Ht; iintro Ht
  iapply (wp_load_rect 𝒱₀ (c : Thread nD τ) none Set.univ (m := tM) (r := Rect.unit (s := S4) ![1] S1.size inb_S4_S1_1) (Finset.subset_univ _)) $$ Ht; iintro Ht
  iapply (wp_load_rect 𝒱₀ (c : Thread nD τ) none Set.univ (m := tM) (r := Rect.unit (s := S4) ![2] S1.size inb_S4_S1_2) (Finset.subset_univ _)) $$ Ht; iintro Ht
  iapply (wp_load_rect 𝒱₀ (c : Thread nD τ) none Set.univ (m := tM) (r := Rect.unit (s := S4) ![3] S1.size inb_S4_S1_3) (Finset.subset_univ _)) $$ Ht; iintro Ht
  simp only [wp_assume_of _ _ _ _ (d := k0_chk1.dec _ _ _ _ _) (Gen.k0_chk1_all c _ _ _ _)]
  -- the signal to the source's barrier, with the result's staging buffer
  ihave Hh := (out_halves c g2).1 $$ Hout
  icases Hh with ⟨Ho0, Ho1⟩
  iapply (wp_signal_src σ m ρ K c _ (dev1_src σ c _ _ _ _ w0 w1 w2 w3 (Gen.k0_chk1_all c _ _ _ _)) W g2) $$ [HO HtB Ho0 Ho1]
  · isplitr; · iexact HR
    isplitl [HO]; · iexact HO
    isplitl [HtB]; · iexact HtB
    isplitl [Ho0] <;> iassumption
  iintro HO
  -- half 0 of the input, into the send buffer
  ihave Hsh := (snd_halves c fs) $$ Hs
  icases Hsh with ⟨Hs0, Hs1⟩
  iapply (wp_load 𝒱₀ (c : Thread nD τ) none Set.univ (m := xM) (Finset.subset_univ _)) $$ Hx; iintro Hx
  iapply (wp_fill_half 0 c fs) $$ Hs0; iintro Hs0
  rw [pay2_pay1]
  -- the wait on the barrier, for the target's result staging buffer
  iapply (wp_wait_bar σ m ρ K c W) $$ [HcB HO HaB]
  · isplitr; · iexact HR
    isplitr; · iexact Hlev
    isplitl [HcB]; · iexact HcB
    isplitl [HO] <;> iassumption
  iintro ⟨HO, HaB, Hpay⟩
  unfold barPay
  icases Hpay with ⟨⟨%e0, He0⟩, ⟨%e1, He1⟩, -, -⟩
  unfold O₁ O₂
  iapply (wp_send_half σ m ρ K 0 c _ (dev2_tgt σ c _ w10 hc2) (0 + tallyAt (recvCell 1 (tgt σ c)) () N) _ _ e0 (landed_half 0 e0 fs (xstg m ρ c))) $$ [HO Hs0 He0 HtS0 HtV0]
  · isplitr; · iexact HR
    isplitl [Hs0]; · iexact Hs0
    isplitl [He0]; · iexact He0
    isplitl [HO]; · iexact HO
    isplitl [HtS0] <;> iassumption
  iintro ⟨HcS0, HO⟩
  -- half 1 likewise
  iapply (wp_load 𝒱₀ (c : Thread nD τ) none Set.univ (m := xM) (Finset.subset_univ _)) $$ Hx; iintro Hx
  iapply (wp_fill_half 1 c fs) $$ Hs1; iintro Hs1
  rw [pay3_eq]
  iapply (wp_send_half σ m ρ K 1 c _ (dev3_tgt σ c _ w10 hc2) 0 _ _ e1 (landed_half 1 e1 fs (xstg m ρ c))) $$ [HO Hs1 He1 HtS1 HtV1]
  · isplitr; · iexact HR
    isplitl [Hs1]; · iexact Hs1
    isplitl [He1]; · iexact He1
    isplitl [HO]; · iexact HO
    isplitl [HtS1] <;> iassumption
  iintro ⟨HcS1, HO⟩
  -- the four waits
  iapply (wp_wait_dma σ m ρ c (sendS 0) (live_send 0) (K (c, 1)) _ (src := oH 0) (dst := sH 0) (credit_s 0)) $$ [HcS0 HO HaS0]
  · isplitr; · iapply (inv_send σ m ρ K 0 c); iexact HR
    isplitl [HcS0]; · iexact HcS0
    isplitl [HO] <;> iassumption
  iintro ⟨HO, HaS0, Hp0⟩
  iapply (wp_wait_dma σ m ρ c (recvS 0) (live_recv 0) (K (c, 3)) _ (src := sH 0) (dst := oH 0) (credit_o 0)) $$ [HcV0 HO HaV0]
  · isplitr; · iapply (inv_recv σ m ρ K 0 c); iexact HR
    isplitl [HcV0]; · iexact HcV0
    isplitl [HO] <;> iassumption
  iintro ⟨HO, HaV0, Hq0⟩
  iapply (wp_wait_dma σ m ρ c (sendS 1) (live_send 1) (K (c, 2)) _ (src := oH 1) (dst := sH 1) (credit_s 1)) $$ [HcS1 HO HaS1]
  · isplitr; · iapply (inv_send σ m ρ K 1 c); iexact HR
    isplitl [HcS1]; · iexact HcS1
    isplitl [HO] <;> iassumption
  iintro ⟨HO, HaS1, Hp1⟩
  iapply (wp_wait_dma σ m ρ c (recvS 1) (live_recv 1) (K (c, 4)) _ (src := sH 1) (dst := oH 1) (credit_o 1)) $$ [HcV1 HO HaV1]
  · isplitr; · iapply (inv_recv σ m ρ K 1 c); iexact HR
    isplitl [HcV1]; · iexact HcV1
    isplitl [HO] <;> iassumption
  iintro ⟨HO, HaV1, Hq1⟩
  -- the send buffer whole again, the result's staging buffer whole and landed
  ihave Hs0 := (Entails.of_eq (payOf_send σ m ρ 0 c)) $$ Hp0
  ihave Hs1 := (Entails.of_eq (payOf_send σ m ρ 1 c)) $$ Hp1
  ihave Ho0 := (Entails.of_eq (payOf_recv σ m ρ 0 c)) $$ Hq0
  ihave Ho1 := (Entails.of_eq (payOf_recv σ m ρ 1 c)) $$ Hq1
  unfold sendPay recvPay
  icases Hs0 with ⟨%k0, Hs0⟩
  icases Hs1 with ⟨%k1, Hs1⟩
  ihave Hs := (snd_join c k0 k1) $$ [Hs0 Hs1]
  · isplitl [Hs0] <;> iassumption
  ihave Hout := (out_halves c (landed σ m ρ c)).2 $$ [Ho0 Ho1]
  · isplitl [Ho0] <;> iassumption
  -- the five cells close
  imod (close_cell σ m ρ K c 0) $$ [HaB] with HzB
  · isplitr; · iexact HR
    iexact HaB
  imod (close_cell σ m ρ K c 1) $$ [HaS0] with HzS0
  · isplitr; · iexact HR
    iexact HaS0
  imod (close_cell σ m ρ K c 2) $$ [HaS1] with HzS1
  · isplitr; · iexact HR
    iexact HaS1
  imod (close_cell σ m ρ K c 3) $$ [HaV0] with HzV0
  · isplitr; · iexact HR
    iexact HaV0
  imod (close_cell σ m ρ K c 4) $$ [HaV1] with HzV1
  · isplitr; · iexact HR
    iexact HaV1
  rw [wp_ret]; imodintro
  iapply Hk
  unfold bodyPost Φ₁ zeros sbuf Dat.owesAt Pipeline.owesWithin
  rw [show (dats σ m ρ 0 c).owed t₀.succ = 0 from rfl]
  isplitl [Hs HzB HzS0 HzS1 HzV0 HzV1]
  · isplitl [Hs]; · iexact Hs
    isplitl [HzB]; · iexact HzB
    isplitl [HzS0]; · iexact HzS0
    isplitl [HzS1]; · iexact HzS1
    isplitl [HzV0] <;> iassumption
  isplitl [HO]
  · iexists _
    isplitr
    rotate_left
    · iexact HO
    · ipureintro; exact fun _ _ => Or.inl trivial
  isplitl [Hx]
  · iexists _; isplitr; · (ipureintro; rfl)
    iexact Hx
  isplitl [Ht]
  · iexists _; isplitr; · (ipureintro; rfl)
    iexact Ht
  iexists _; isplitr; · (ipureintro; rfl)
  iexact Hout

/-- The entry state as the launch hands it over. -/
def bodyPre' (c : Dev nD) : sProp 𝕄 :=
  iprop(Φ₀ σ m ρ c ∗ (dats σ m ρ 0 c).owesAt () t₀.castSucc
    ∗ (∃ d, stg c cc0_stg0_0 ((dats σ m ρ 0 c).before (0 : Fin 3) t₀ d))
    ∗ (∃ d, stg c cc0_stg1_0 ((dats σ m ρ 0 c).before (1 : Fin 3) t₀ d))
    ∗ (∃ d, stg c cc0_stg2_0 ((dats σ m ρ 0 c).before (2 : Fin 3) t₀ d)))

set_option maxRecDepth 4000 in
/-- The body meets what the launch asks of it. -/
theorem body_obligation (ht : IsTable σ m) (c : Dev nD) : BodyObligation (dats (F := F) σ m ρ 0 c) (defs₀ (F := F)) 𝒱₀ () Set.univ := fun t => by
  rw [fin_N t, bigSep_W, bigSep_W]
  simp only [owns_whole_eq]
  show bodyPre' σ m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_stg2_0) (Memref.isWhole_whole _) (Memref.whole cc0_scratch0) (Memref.isWhole_whole _) cc0_scratch1 cc0_scratch2) (fun _ => bodyPost σ m ρ c)
  unfold bodyPre' Φ₀ start
  iintro ⟨⟨⟨⟨%K, Hg⟩, Hcr, Hlev⟩, Hs⟩, Ho, Hrest⟩
  iapply (sound_body σ m ρ K ht c fun _ => bodyPost σ m ρ c)
  unfold bodyPre
  isplitr []
  · isplitl [Hg Hcr Hlev Hs]
    · isplitl [Hg]; · iexact Hg
      isplitl [Hcr]; · iexact Hcr
      isplitl [Hlev] <;> iassumption
    isplitl [Ho] <;> iassumption
  · iintro H; iexact H

end Body

end Cert.PermRows

end
-- ==== Proof.Launch.lean ====
/-
# The launch: from the devices' start to the whole run
-/
module

public import proofs.«01_k».proof.Proof.Run
public import Idealize.ShloMosaic.Lib.Pipeline.CollectiveSegs

@[expose] public section

noncomputable section

namespace Cert.PermRows

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (σ : Equiv.Perm (Fin 4)) (m : (ℓ : Loc nD τ sig) → Buf (Elt F) ℓ) (ρ : Dev nD → PrngReg)

/-! ## Side conditions -/

theorem ownSemFacts : Pipeline.OwnSemFacts cfg0.spec osem := by decide
theorem share_eq (c : Dev nD) (w : Fin cfg0.W) : (dats σ m ρ 0 c).share w = fullShare := by unfold Dat.share; split <;> rfl

/-! ## The cells and their tokens -/

theorem csem_injective : Function.Injective csem := by decide
theorem kcell_injective : Function.Injective (kcell : Dev nD × Fin 5 → GSem nD τ sig) := by
  rintro ⟨c, k⟩ ⟨c', k'⟩ h
  have h1 : c = c' := congrArg (fun g : GSem nD τ sig => g.1.1) h
  have h2 : k = k' := csem_injective (congrArg Prod.snd h)
  rw [h1, h2]
def permCells : Finset (GSem nD τ sig) := Finset.univ.map ⟨kcell, kcell_injective⟩

/-- One duty token per cell. -/
abbrev tokOf (ck : Dev nD × Fin 5) : GSem nD τ sig × ℕ × Unit := (kcell ck, 0, ())
theorem tokOf_injective : Function.Injective tokOf := fun _ _ h => kcell_injective (congrArg Prod.fst h)
def permToks : Finset (GSem nD τ sig × ℕ × Unit) := Finset.univ.map ⟨tokOf, tokOf_injective⟩

def u₀ : UU := (initOf (Pipeline.cells cfgs cellOf_inj) (Pipeline.launchToks cfgs cellOf_inj), initOf permCells permToks)

/-- The duty tokens of device `c`'s own cells. -/
def toks (c : Dev nD) : sProp 𝕄 := bigSep Finset.univ fun k : Fin 5 => dutyTok ER (kcell (c, k)) 0 ()

/-- What device `c` is dealt at the start: its cells' states, its places in them and their tokens; -/
def G (c : Dev nD) : sProp 𝕄 :=
  iprop((bigSep Finset.univ fun k : Fin 5 => roundState ER (sched σ m ρ) (kcell (c, k)) 0)
    ∗ (bigSep Finset.univ fun k : Fin 5 => iprop(atPos ER (kcell (c, k)) 0 ∅ 0 ∗ reached ER (kcell (c, k)) 0)) ∗ toks c)
/-- and what it enters with, once the invariants stand and the tokens lie with their payers. -/
def G' (c : Dev nD) : sProp 𝕄 := iprop(∃ K, ghost σ m ρ K c)

omit [FloatOps F] in
theorem bigSep_five (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ

omit [FloatOps F] in
theorem fund : BI.own (ER (initOf permCells permToks)) ⊢ (|==> bigSep Finset.univ (G σ m ρ) : sProp 𝕄) := by
  have hX (Φ : GSem nD τ sig → sProp 𝕄) : bigSep permCells Φ = bigSep Finset.univ fun c : Dev nD => bigSep Finset.univ fun k : Fin 5 => Φ (kcell (c, k)) := by
    unfold permCells; rw [bigSep_map, bigSep_univ_prod]; rfl
  have hT : bigSep permToks (fun x => (dutyTok ER x.1 x.2.1 x.2.2 : sProp 𝕄)) = bigSep Finset.univ fun c : Dev nD => toks c := by
    unfold permToks; rw [bigSep_map, bigSep_univ_prod]; rfl
  iintro HX
  imod (Rounds.fund ER (sched σ m ρ) permCells permToks) $$ HX with ⟨Hst, Hr, Hat, Htok⟩
  imodintro
  ihave Hst' := (Entails.of_eq (hX fun g => roundState ER (sched σ m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
theorem ownSems0_eq (c : Dev nD) : (Pipeline.ownSems0 (Ix := Unit) (Name := ℕ) (U := UU) (Lvl := ℕ) (Val := Elt F) (τ := τ) osem c : sProp 𝕄)
    = iprop(semVal (sendCell 0 c) 0 ∗ semVal (sendCell 1 c) 0 ∗ semVal (recvCell 0 c) 0 ∗ semVal (recvCell 1 c) 0) := by
  rw [Pipeline.ownSems0_eq_of_list c osem [0, 1, 2, 3] (by decide) (by decide)]; rfl
omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- A device's five counters at zero, and its cells' states, set up its five invariants. -/
theorem core_alloc (c : Dev nD) :
    iprop(Pipeline.ownSems0 (Ix := Unit) (Name := ℕ) (U := UU) (Lvl := ℕ) (Val := Elt F) (τ := τ) osem c ∗ unscopedSems0 c ∗ G σ m ρ c)
      ⊢ |={Set.univ}=> iprop((bigSep Finset.univ fun k => iprop(∃ κ : ℕ, cellInv ER (sched σ m ρ) κ (kcell (c, k))))
          ∗ (bigSep Finset.univ fun k => iprop(atPos ER (kcell (c, k)) 0 ∅ 0 ∗ reached ER (kcell (c, k)) 0)) ∗ toks c) := by
  have hv : iprop(Pipeline.ownSems0 (Ix := Unit) (Name := ℕ) (U := UU) (Lvl := ℕ) (Val := Elt F) (τ := τ) osem c ∗ unscopedSems0 c)
      ⊢ (bigSep Finset.univ fun k : Fin 5 => semVal (kcell (c, k)) 0 : sProp 𝕄) := by
    rw [ownSems0_eq, unscopedSems0_eq, bigSep_five]
    iintro ⟨Ho, Hb⟩
    isplitl [Hb] <;> iassumption
  have hi : iprop((bigSep Finset.univ fun k : Fin 5 => semVal (kcell (c, k)) 0) ∗ bigSep Finset.univ fun k : Fin 5 => roundState ER (sched σ m ρ) (kcell (c, k)) 0)
      ⊢ (|={Set.univ}=> bigSep Finset.univ fun k => iprop(∃ κ : ℕ, cellInv ER (sched σ m ρ) κ (kcell (c, k))) : sProp 𝕄) := by
    rw [← bigSep_sep']
    exact (bigSep_mono fun k _ => (Rounds.body_intro ER (sched σ m ρ) (kcell (c, k))).trans inv_alloc).trans (bigSep_fupd _ _)
  unfold G
  iintro ⟨Hos, Hus, Hst, Hrest⟩
  ihave Hv := hv $$ [Hos Hus]
  · isplitl [Hos] <;> iassumption
  imod hi $$ [Hv Hst] with Hinv
  · isplitl [Hv] <;> iassumption
  imodintro
  isplitl [Hinv] <;> iassumption

omit [FloatOps F] in
/-- The tokens go to their payers: a barrier's to the device it sends to, a receive cell's to the device it is sent by. -/
theorem toks_dealt : (bigSep Finset.univ fun c : Dev nD => (toks c : sProp 𝕄)) ⊢ bigSep Finset.univ fun c : Dev nD => payToks σ c := by
  have h5 (c : Dev nD) : (toks c : sProp 𝕄) = iprop(dutyTok ER (barCell c) 0 () ∗ dutyTok ER (sendCell 0 c) 0 () ∗ dutyTok ER (sendCell 1 c) 0 ()
      ∗ dutyTok ER (recvCell 0 c) 0 () ∗ dutyTok ER (recvCell 1 c) 0 ()) := by unfold toks; rw [bigSep_five]
  simp only [h5]
  unfold payToks
  simp only [bigSep_sep']
  rw [bigSep_univ_equiv (sends σ).symm (fun c : Dev nD => (dutyTok ER (barCell c) 0 () : sProp 𝕄)),
    bigSep_univ_equiv (sends σ) (fun c : Dev nD => (dutyTok ER (recvCell 0 c) 0 () : sProp 𝕄)),
    bigSep_univ_equiv (sends σ) (fun c : Dev nD => (dutyTok ER (recvCell 1 c) 0 () : sProp 𝕄))]
  iintro ⟨HB, HS0, HS1, HV0, HV1⟩
  isplitl [HB]; · iexact HB
  isplitl [HV0]; · iexact HV0
  isplitl [HV1]; · iexact HV1
  isplitl [HS0] <;> iassumption

omit [FloatOps F] in
/-- Something known may be handed to every member of a family. -/
theorem bigSep_knowing {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
theorem regroup :
    (bigSep Finset.univ fun c : Dev nD => iprop((bigSep Finset.univ fun k => iprop(∃ κ : ℕ, cellInv ER (sched σ m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' σ m ρ) := by
  have hp (c : Dev nD) : (bigSep Finset.univ fun k : Fin 5 => (atPos ER (kcell (c, k)) 0 ∅ 0 : sProp 𝕄)) = places c := by rw [bigSep_five]; rfl
  rw [bigSep_sep', bigSep_sep', ← bigSep_univ_prod (fun ck : Dev nD × Fin 5 => iprop(∃ κ : ℕ, cellInv ER (sched σ m ρ) κ (kcell ck))),
    bigSep_congr (s := Finset.univ) (fun (c : Dev nD) _ => bigSep_sep' Finset.univ (fun k : Fin 5 => (atPos ER (kcell (c, k)) 0 ∅ 0 : sProp 𝕄)) (fun k => reached ER (kcell (c, k)) 0)),
    bigSep_sep', ← bigSep_univ_prod (fun ck : Dev nD × Fin 5 => (reached ER (kcell ck) 0 : sProp 𝕄))]
  simp only [hp]
  iintro ⟨HI, ⟨Hat, #HR⟩, Htok⟩
  ihave HK := (BI.bigSep_exists_pi Finset.univ (fun (ck : Dev nD × Fin 5) (κ : ℕ) => (cellInv ER (sched σ m ρ) κ (kcell ck) : sProp 𝕄))) $$ HI
  icases HK with ⟨%K, #HI⟩
  ihave Htk := (toks_dealt (F := F) σ) $$ Htok
  iapply (bigSep_knowing (R := records σ m ρ K) (Φ := fun c => iprop(places c ∗ payToks σ c)) fun c _ => by
    unfold G' ghost; iintro ⟨#HR, Hl⟩; iexists K; isplitr; · iexact HR
    iexact Hl)
  isplitr
  · unfold records; isplitr; · iexact HI
    iexact HR
  · rw [bigSep_sep']
    isplitl [Hat] <;> iassumption

omit [FloatOps F] in
theorem glob : (bigSep Finset.univ fun c => iprop(Pipeline.ownSems0 (Ix := Unit) (Name := ℕ) (U := UU) (Lvl := ℕ) (Val := Elt F) (τ := τ) osem c ∗ unscopedSems0 c ∗ G σ m ρ c) : sProp 𝕄)
    ⊢ |={Set.univ}=> bigSep Finset.univ (G' σ m ρ) :=
  ((bigSep_mono fun c _ => core_alloc σ m ρ c).trans (bigSep_fupd _ _)).trans (BI.fupd_mono (regroup σ m ρ))

/-! ## The credit at the launch -/

theorem cell_eq_iff {a b : Dev nD} {s : SemLoc sig} : Iff (cellAt a s = cellAt b s) (a = b) :=
  ⟨fun h => congrArg (fun g : GSem nD τ sig => g.1.1) h, fun h => h ▸ rfl⟩
theorem cell_ne {a b : Dev nD} {s s' : SemLoc sig} (h : s ≠ s') : ¬ cellAt a s = cellAt b s' := fun e => h (congrArg Prod.snd e)

theorem is_tgt (c d : Dev nD) : Iff (c = tgt σ d) (d = src σ c) :=
  ⟨fun h => by rw [h, src_tgt], fun h => by rw [h, tgt_src]⟩
theorem is_src (c d : Dev nD) : Iff (c = src σ d) (d = tgt σ c) :=
  ⟨fun h => by rw [h, tgt_src], fun h => by rw [h, src_tgt]⟩

/-- Each cell waited on is owed by exactly one device. -/
theorem owed_bar (d c : Dev nD) : O₀ σ d (barCell c) () = if d = tgt σ c then 1 else 0 := by
  rw [owed_apply, if_neg (cell_ne (by decide)), if_neg (cell_ne (by decide)), Nat.zero_add]
  simp only [cell_eq_iff, is_src]
theorem owed_recv0 (d c : Dev nD) : O₀ σ d (recvCell 0 c) () = if d = src σ c then N else 0 := by
  rw [owed_apply, if_neg (cell_ne (by decide)), if_neg (cell_ne (s := .dma (recvS 0)) (s' := .reg barS) (by decide)), Nat.zero_add, Nat.add_zero]
  simp only [cell_eq_iff, is_tgt]
theorem owed_recv1 (d c : Dev nD) : O₀ σ d (recvCell 1 c) () = if d = src σ c then N else 0 := by
  rw [owed_apply, if_neg (cell_ne (s := .dma (recvS 1)) (s' := .dma (recvS 0)) (by decide)), if_neg (cell_ne (s := .dma (recvS 1)) (s' := .reg barS) (by decide)), Nat.add_zero]
  simp only [cell_eq_iff, is_tgt]

/-- A cell owed `n` units by one device alone starts with that much credit. -/
theorem launch_one (g : GSem nD τ sig) (a : Dev nD) (n : ℕ) (h : ∀ d, O₀ σ d g () = if d = a then n else 0) :
    tallyOn g (launchCredit (Pipeline.owing (O₀ σ)) 0 g) = (tallyAt g () n : CellTallies nD τ sig Unit) := by
  unfold tallyAt; refine congrArg _ (Finsupp.ext fun u => ?_); cases u
  rw [Pipeline.launchCredit_owing, Finsupp.single_eq_same, Finset.sum_congr rfl fun d _ => h d, Finset.sum_ite_eq' Finset.univ a fun _ => n, if_pos (Finset.mem_univ _)]

omit [FloatOps F] in
theorem creds (c : Dev nD) : (Pipeline.launchCred (O₀ σ) c : sProp 𝕄) ⊢ startCred c := by
  unfold Pipeline.launchCred startCred
  rw [← launch_one σ (barCell c) (tgt σ c) 1 fun d => owed_bar σ d c, ← launch_one σ (recvCell 0 c) (src σ c) N fun d => owed_recv0 σ d c,
    ← launch_one σ (recvCell 1 c) (src σ c) N fun d => owed_recv1 σ d c,
    bigSep_univ_at _ (SemLoc.reg barS), bigSep_erase (i := SemLoc.dma (recvS 0)) (Finset.mem_erase.mpr ⟨by decide, Finset.mem_univ _⟩)]
  refine sep_mono_right (sep_mono_right ?_)
  exact bigSep_elim (Finset.mem_erase.mpr ⟨by decide, Finset.mem_erase.mpr ⟨by decide, Finset.mem_univ _⟩⟩)

/-! ## The launch's premises -/

omit [FloatOps F] in
theorem start_intro (c : Dev nD) :
    iprop(Pipeline.unscopedRestP Pipeline.Prefetch.none cfg0.spec c (fun b => m ((c : Thread nD τ).loc b)) ∗ levAts L lv
        ∗ Pipeline.launchCred (O₀ σ) c ∗ prngReg c (ρ c) ∗ G' σ m ρ c)
      ⊢ |={Set.univ}=> iprop(start σ m ρ c ∗ emp) := by
  iintro ⟨-, Hlev, Hcr, -, HG⟩
  ihave Hc := (creds (F := F) σ c) $$ Hcr
  imodintro
  unfold start G'
  isplitl
  · isplitl [HG]; · iexact HG
    isplitl [Hc] <;> iassumption
  · iempintro

theorem phi0_intro (c : Dev nD) :
    iprop(start σ m ρ c ∗ Pipeline.prefHeld Pipeline.Prefetch.none c (fun _ => fullShare.right) (fun k => k.elim0) ∗ Pipeline.scopedRest cfg0.spec c)
      ⊢ (dats σ m ρ 0 c).Φ 0 := by
  rw [show (dats σ m ρ 0 c).Φ 0 = Φ₀ σ m ρ c from rfl, scopedRest0_eq]
  unfold Φ₀ sbuf
  iintro ⟨Hs, -, Hr⟩
  isplitl [Hs] <;> iassumption

theorem phi1_exit (c : Dev nD) :
    (dats σ m ρ 0 c).Φ (Fin.last cfg0.N) ⊢ iprop(unscopedSems0 c ∗ Pipeline.ownSems0 osem c ∗ Pipeline.scopedRest cfg0.spec c) := by
  rw [show (dats σ m ρ 0 c).Φ (Fin.last cfg0.N) = Φ₁ c from rfl, scopedRest0_eq, ownSems0_eq, unscopedSems0_eq]
  unfold Φ₁ sbuf zeros
  iintro ⟨Hs, Hb, Hz⟩
  isplitl [Hb]; · iexact Hb
  isplitl [Hz] <;> iassumption

theorem waits (c : Dev nD) : (levAts L lv : sProp 𝕄) ⊢ Pipeline.cellsWaits cfgs (dats σ m ρ) () 0 c :=
  Pipeline.cellsWaits_intro cfgs (dats σ m ρ) () 0 c fun w s t =>
    mayWait_stage σ c _ (by fin_cases w <;> fin_cases s <;> decide) _ (by
      rcases t with ⟨_ | _, ht⟩
      · exact Or.inl rfl
      · exact Or.inr rfl)

/-! ## The run -/

/-- Window `w`'s array on device `c` after the run. -/
def finalA (c : Dev nD) (w : Fin cfg0.W) : Buf (Elt F) ((cfg0.win w).arr.view.loc (c : Thread nD τ)) := (dats σ m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA σ m ρ c w

set_option maxRecDepth 8000 in
/-- For any float values, from any memory holding `σ`'s table on every device and zero counters: every weakly fair
    execution of the whole mesh terminates, and every final state has each device's arrays as computed and every semaphore
    counter at zero. -/
theorem run_main (ht : IsTable σ m) : θ_run defs (onTc (τ := τ) (main (F := F))) (s₀ m ρ) (fun r => QC σ m ρ r ∧ r.2.sem = fun _ => 0) :=
  Pipeline.θ_run_region_owing_glob_pf (fun p => (cfgs p).toPCfg) (fun p => (cfgs p).toPCfg_adm) (dats σ m ρ) () cellOf_inj (0 : Fin 1)
    winFacts0.to₀ ownSemFacts (Pipeline.PreFacts.none _) EP defs₀ 𝒱₀ m ρ main
    (hmain := fun _ => rfl)
    (hbody := body_obligation σ m ρ ht) (hne := fun w => by fin_cases w <;> exact Nat.succ_pos _) (harr := arr_whole0) (hstage := stage_whole0) (hshare := share_eq σ m ρ)
    (hdistinct := winFacts0.arr_inj)
    (O₀ := O₀ σ) (howed₀ := fun _ => rfl) (howedN := fun _ => rfl)
    (L := L) (lv := lv) (hL := L_of_ne) (hwaits := waits σ m ρ)
    (G := G σ m ρ) (G' := G' σ m ρ) (u₀ := u₀)
    (hu₀ := by
      unfold u₀
      iintro Hu
      ihave H := (ownU_pair _ _) $$ Hu
      icases H with ⟨HP, HX⟩
      imod (fund σ m ρ) $$ HX with HG
      imodintro
      isplitl [HP] <;> iassumption)
    (hglob := glob σ m ρ)
    (hA := fun _ _ => rfl) (hpf := fun _ k => k.elim0)
    (X := start σ m ρ) (Y := fun c => unscopedSems0 c) (Z := fun _ => iprop(emp))
    (hX := start_intro σ m ρ) (hin := phi0_intro σ m ρ) (hout := phi1_exit σ m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The input array is as before, -/
theorem finalA_x (c : Dev nD) : finalA σ m ρ c (0 : Fin 3) = m (win0_0.arr.view.loc (c : Thread nD τ)) :=
  (dats (F := F) σ m ρ 0 c).arrAt_in (0 : Fin 3) rfl _
/-- and so is the table. -/
theorem finalA_t (c : Dev nD) : finalA σ m ρ c (1 : Fin 3) = m (win0_1.arr.view.loc (c : Thread nD τ)) :=
  (dats (F := F) σ m ρ 0 c).arrAt_in (1 : Fin 3) rfl _

end Cert.PermRows

end
-- ==== Proof.Reference.lean ====
/-
# The reference: rows taken at the sorting positions of a permutation's table are the rows at its inverse

On the table holding `σ`, the stable sort of the positions by the table's entries is `σ⁻¹`, no position is negative,
so the gather takes row `σ⁻¹ k` into row `k`; the widening to f32 and the narrowing back are the identity on extended
reals.
-/
module

public import proofs.«01_k».proof.Proof.Gen.ReferenceIdeal.Run
public import proofs.«01_k».proof.Proof.Table
public import Idealize.ShloMosaic.PureOps.Ideal

@[expose] public section

noncomputable section

namespace Cert.PermRows.Ref

open Cert.ReferenceIdeal Cert.ReferenceIdeal.Gen
open Idealize.ShloMosaic
open Idealize.ShloMosaic.TcCoe
open Idealize.SL.Sem

/-- Index `j` moved to row `k`. -/
def atRow (k : Fin 4) (j : S4x256x256.Idx) : S4x256x256.Idx := fun a => match a with
  | ⟨0, _⟩ => k
  | ⟨1, _⟩ => j 1
  | ⟨2, _⟩ => j 2

/-- Sorting the positions by a permutation's entries puts position `σ⁻¹ k` at `k`. -/
theorem sorted_inverse : ∀ (σ : Equiv.Perm (Fin 4)) (k : Fin 4),
    sortedFrom (fun a b => IntOp.cmpi .slt (word (σ a)) (word (σ b)) == 1#1) k = σ.symm k := by decide +kernel

/-- The argsort of `σ`'s table is `σ⁻¹`'s. -/
theorem argsort_table (σ : Equiv.Perm (Fin 4)) (t : IVec S4 32) (ht : ∀ i, t i = word (σ (i 0))) (i : S4.Idx) :
    (Host.sort2 S4 0 comparator_i32_i32_d0 t (iotaInDim S4 32 0)).2 i = word (σ.symm (i 0)) := by
  rw [← sorted_inverse σ (i 0)]
  obtain rfl : t = fun i => word (σ (i 0)) := funext ht
  rfl

/-- A position is not negative. -/
theorem word_nonneg : ∀ k : Fin 4, (if IntOp.cmpi .slt (word k) 0#32 = 1#1 then IntOp.addi (word k) 4#32 else word k) = word k := by decide

/-- A position read as a signed word and clamped to the table is itself. -/
theorem word_clamp : ∀ k : Fin 4, min (word k).toInt.toNat 3 = k.val := by decide

/-- The gather reads its operand at the row its index names. -/
theorem gather_rows {α : Type} (x : S4x256x256.Idx → α) (t : IVec S4x1 32) (f : Fin 4 → Fin 4) (ht : ∀ i, t i = word (f (i 0))) (j : S4x256x256.Idx) :
    Host.gather gather_S4x256x256_S4x1_S4x256x256_12_0_n_n_0_1_1256256 x t j = x (atRow (f (j 0)) j) := by
  obtain rfl : t = fun i => word (f (i 0)) := funext ht
  unfold Host.gather
  congr 1
  funext a
  refine Fin.ext ?_
  match a with
  | ⟨0, _⟩ => exact word_clamp (f (j 0))
  | ⟨1, _⟩ => exact Nat.zero_add _
  | ⟨2, _⟩ => exact Nat.zero_add _

/-- The whole result: row `k` of the result is row `σ⁻¹ k` of the input. -/
def result (σ : Equiv.Perm (Fin 4)) (x : S4x256x256.Idx → Ideal .bf16) : S4x256x256.Idx → Ideal .bf16 := fun j => x (atRow (σ.symm (j 0)) j)

/-- Run from a memory holding `σ`'s table, the reference ends with its result at `result` of its input and its arguments
    unchanged. -/
theorem run_table (σ : Equiv.Perm (Fin 4)) (m : (ℓ : Loc nD τ sig) → Buf (Elt Ideal) ℓ) (ρ : Dev nD → PrngReg)
    (ht : ∀ (c : Dev nD) (i : S4.Idx), m ((c : Thread nD τ).loc main_arg1) i = word (σ (i 0))) :
    θ_run defs (onTc (τ := τ) (main (F := Ideal))) ⟨m, fun _ => 0, ρ⟩ fun r => ∀ c : Dev nD,
      r.2.mem ((c : Thread nD τ).loc main_v9) = result σ (m ((c : Thread nD τ).loc main_arg0))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (funext fun j => by
    show Host.gather gather_S4x256x256_S4x1_S4x256x256_12_0_n_n_0_1_1256256 _ _ j = _
    rw [show (Host.sort2 S4 0 comparator_i32_i32_d0 (m ((c : Thread nD τ).loc main_arg1)) (iotaInDim S4 32 0)).2 = fun i => word (σ.symm (i 0)) from
      funext (argsort_table σ _ (ht c))]
    exact gather_rows _ _ σ.symm (fun i => word_nonneg (σ.symm (i 0))) j), (h c).2⟩) (Value.run m ρ)

end Cert.PermRows.Ref

end
-- ==== Proof.Value.lean ====
/-
# What the run leaves, and what it is of the whole arrays

Device `c`'s result array ends as the input array of `src σ c`; over the whole arrays, cut into rows along the mesh's
third axis, that is row `σ⁻¹ k` of the input at row `k` of the result.
-/
module

public import proofs.«01_k».proof.Proof.Launch
public import proofs.«01_k».proof.Proof.Reference
public import proofs.«01_k».proof.Defs

@[expose] public section

noncomputable section

namespace Cert.PermRows

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (σ : Equiv.Perm (Fin 4)) (m : (ℓ : Loc nD τ sig) → Buf (Elt F) ℓ) (ρ : Dev nD → PrngReg)

/-! ## The result array -/

set_option maxRecDepth 8000 in
/-- The result array's one block, read back, is what landed in the staging buffer. -/
theorem finalA_o (c : Dev nD) :
    (win0_2.blk (0 : Fin 1)).view.read (Elt F) (finalA σ m ρ c (2 : Fin 3)) = landed σ m ρ c := by
  unfold finalA
  rw [show cfg0.N = ((0 : Fin 1) : Fin cfg0.N).val + 1 from rfl, (dats σ m ρ 0 c).arrAt_succ (2 : Fin 3) (0 : Fin 1),
    show (cfg0.win (2 : Fin 3)).flush (0 : Fin 1) = true from by decide, if_pos rfl]
  exact View.read_write_univ _ _

/-- Device `c`'s result array ends as its source's input array was. -/
theorem result_eq (c : Dev nD) : finalA σ m ρ c (2 : Fin 3) = m ((src σ c : Thread nD τ).loc main_arg0) := by
  have hz2 : (fun a => (win0_2.index (0 : Fin 1)) a * main_v1.ty.shape.size a) = fun _ => 0 := funext fun a => by fin_cases a <;> decide
  have hz0 : (fun a => (win0_0.index (0 : Fin 1)) a * main_arg0.ty.shape.size a) = fun _ => 0 := funext fun a => by fin_cases a <;> decide
  have h2 := fun f => Memref.read_access_unit_zero (Elt F) main_v1 hz2 (fun a => by fin_cases a <;> decide) f
  have h0 := fun f => Memref.read_access_unit_zero (Elt F) main_arg0 hz0 (fun a => by fin_cases a <;> decide) f
  have ho := finalA_o σ m ρ c
  unfold landed xstg s₀ at ho
  exact (h2 _).symm.trans (ho.trans (h0 _))

/-- The run, read at the three arrays of every device and at the counters. -/
theorem run_values (ht : IsTable σ m) : θ_run defs (onTc (τ := τ) (main (F := F))) ⟨m, fun _ => 0, ρ⟩ fun r =>
    (∀ c : Dev nD, r.2.mem ((c : Thread nD τ).loc main_v1) = m ((src σ c : Thread nD τ).loc main_arg0)
      ∧ r.2.mem ((c : Thread nD τ).loc main_arg0) = m ((c : Thread nD τ).loc main_arg0)
      ∧ r.2.mem ((c : Thread nD τ).loc main_arg1) = m ((c : Thread nD τ).loc main_arg1))
    ∧ r.2.sem = fun _ => 0 :=
  (θ_run defs _ _).mono (fun _ h => ⟨fun c => ⟨(h.1 c (2 : Fin 3)).trans (result_eq σ m ρ c), (h.1 c (0 : Fin 3)).trans (finalA_x σ m ρ c),
    (h.1 c (1 : Fin 3)).trans (finalA_t σ m ρ c)⟩, h.2⟩) (run_main σ m ρ ht)

/-! ## Over the whole arrays -/

/-- Device `c`'s row of a whole array. -/
abbrev rowOf {α : Type} (c : Dev nD) (v : (⟨3, ![4, 256, 256]⟩ : Shape).Idx → α) : (⟨3, ![1, 256, 256]⟩ : Shape).Idx → α :=
  Layout.blockN ⟨3, ![1, 256, 256]⟩ ⟨3, ![4, 256, 256]⟩ (Layout.meshBlock [2, 4, 4] ![[2], [], []] c) v

/-- Device `c`'s row of the reference's result is its source's row of the input. -/
theorem row_result (c : Dev nD) (x : (⟨3, ![4, 256, 256]⟩ : Shape).Idx → Ideal .bf16) : rowOf c (Ref.result σ x) = rowOf (src σ c) x := by
  funext i
  have hi : (i 0).val = 0 := by have : (i 0).val < 1 := (i 0).isLt; omega
  have row (d : Dev nD) (k : Fin 4) (hk : d.val % 4 = k.val) : (d.val / 1 % 4 * 1 + 0) * 1 + (i 0).val = k.val := by omega
  show x (Ref.atRow (σ.symm _) _) = x _
  congr 1
  funext a
  refine Fin.ext ?_
  match a with
  | ⟨0, _⟩ =>
    refine Eq.trans ?_ (row (src σ c) (σ.symm (zc c)) (congrArg Fin.val (zc_inRow c _))).symm
    show (σ.symm _).val = _
    congr 2
    exact Fin.ext (row c (zc c) rfl)
  | ⟨1, _⟩ => rfl
  | ⟨2, _⟩ => rfl

/-! ## A table given by its four words -/

/-- The four words are a permutation's: each below four, no two equal. -/
def Permutes (lit : Fin 4 → BitVec 32) : Prop := (∀ k, (lit k).toNat < 4) ∧ ∀ j k, lit j = lit k → j = k

instance (lit : Fin 4 → BitVec 32) : Decidable (Permutes lit) := by unfold Permutes; infer_instance

/-- Four such words are the values of one permutation of the rows. -/
theorem Permutes.exists_perm {lit : Fin 4 → BitVec 32} (h : Permutes lit) : ∃ σ : Equiv.Perm (Fin 4), ∀ k, lit k = word (σ k) := by
  have inj : Function.Injective fun k => (⟨(lit k).toNat, h.1 k⟩ : Fin 4) := fun j k e =>
    h.2 j k (BitVec.eq_of_toNat_eq (Fin.mk.inj e))
  refine ⟨Equiv.ofBijective _ (Finite.injective_iff_bijective.mp inj), fun k => ?_⟩
  show lit k = BitVec.ofNat 32 (lit k).toNat
  simp

/-- What the precondition at the words `lit` says of a device's table: compared with them, equal everywhere. -/
abbrev Says (lit : Fin 4 → BitVec 32) (t : IVec S4 32) : Prop := cmpi .eq t (fun i => lit (S4.rowMajor i)) = fun _ => 1#1

/-- A table of which the precondition holds is the words, entry by entry. -/
theorem Says.entry {lit : Fin 4 → BitVec 32} {t : IVec S4 32} (h : Says lit t) (i : S4.Idx) : t i = lit (i 0) := by
  have e : IntOp.cmpi .eq (t i) (lit (S4.rowMajor i)) = 1#1 := congrFun h i
  have r : S4.rowMajor i = i 0 := by
    refine Fin.ext ((Shape.rowMajorPi_succ_val _ i).trans ?_)
    have z : ((Shape.rowMajorPi fun a : Fin 0 => S4.size a.succ) fun a => i a.succ).val = 0 :=
      Nat.lt_one_iff.mp (((Shape.rowMajorPi fun a : Fin 0 => S4.size a.succ) fun a => i a.succ).isLt.trans_eq (Fin.prod_univ_zero _))
    rw [z]
    simp
  rw [r] at e
  by_contra hne
  have f : (t i == lit (i 0)) = false := beq_eq_false_iff_ne.mpr hne
  have e' : BitVec.ofBool (t i == lit (i 0)) = 1#1 := e
  rw [f] at e'
  exact absurd e' (by decide)

/-- The kernel's frame, under the precondition at the words `lit`. -/
theorem frame_of {lit : Fin 4 → BitVec 32} (hl : Permutes lit) (h : ∀ c : Dev nD, Says lit (m ((c : Thread nD τ).loc main_arg1))) :
    θ_run defs (onTc (τ := τ) (main (F := F))) ⟨m, fun _ => 0, ρ⟩ fun r =>
      (∀ c : Dev nD, r.2.mem ((c : Thread nD τ).loc main_arg0) = m ((c : Thread nD τ).loc main_arg0)
        ∧ r.2.mem ((c : Thread nD τ).loc main_arg1) = m ((c : Thread nD τ).loc main_arg1))
      ∧ r.2.sem = fun _ => 0 := by
  obtain ⟨σ, hσ⟩ := hl.exists_perm
  exact (θ_run defs _ _).mono (fun _ h => ⟨fun c => (h.1 c).2, h.2⟩)
    (run_values σ m ρ fun c i => ((h c).entry i).trans (hσ (i 0)))

end Cert.PermRows

end
-- ==== Proof.lean ====
/-
  The certificate's claims. Each is one statement per permutation that the table may hold; each statement is an
  instance of one of the four theorems below at the permutation's four words.
-/
module

public import proofs.«01_k».proof.Proof.Value
public import proofs.«01_k».proof.Proof.Reference
public import proofs.«01_k».proof.Defs
public import proofs.«01_k».proof.Proof.Gen.Kernel
public import proofs.«01_k».proof.Proof.Gen.KernelIdeal
public import proofs.«01_k».proof.Proof.Gen.ReferenceIdeal
public import Idealize.ShloMosaic.Adequacy
public import Idealize.ShloMosaic.Init

@[expose] public section

noncomputable section

namespace Cert.Proof

open Idealize.ShloMosaic Idealize.SL.Sem Cert.PermRows

/-- The printed kernel's body is its ideal form's. -/
theorem same_body a b c d e f g h i j :
    Kernel.cc0_body (F := Bits) a b c d e f g h i j = KernelIdeal.cc0_body (F := Bits) a b c d e f g h i j := rfl

/-- The two programs' tables of bodies are one. -/
theorem same_defs : Kernel.defs (F := Bits) = KernelIdeal.defs (F := Bits) :=
  congrArg (fun d => Pipeline.defs KernelIdeal.pcfgs (Defs.onTc d)) (funext fun l => funext fun a => by
    match l, a with
    | 0, (t, s) => exact same_body ..)

/-- The printed kernel's frame: it ends, its arguments as they were and every counter at zero. -/
theorem frame_kernel {lit : Fin 4 → BitVec 32} (hl : Permutes lit)
    (m : (ℓ : Loc Kernel.nD Kernel.τ Kernel.sig) → Buf (Elt Bits) ℓ) (g : Dev Kernel.nD → PrngReg)
    (h : ∀ c : Dev Kernel.nD, Says lit (m ((c.tc : Thread Kernel.nD Kernel.τ).loc Kernel.main_arg1))) :
    θ_run (Kernel.defs (F := Bits)) (onTc (τ := Kernel.τ) (Kernel.main (F := Bits))) ⟨m, fun _ => 0, g⟩ fun r =>
      (∀ c : Dev Kernel.nD,
        r.2.mem ((c.tc : Thread Kernel.nD Kernel.τ).loc Kernel.main_arg0) = m ((c.tc : Thread Kernel.nD Kernel.τ).loc Kernel.main_arg0)
        ∧ r.2.mem ((c.tc : Thread Kernel.nD Kernel.τ).loc Kernel.main_arg1) = m ((c.tc : Thread Kernel.nD Kernel.τ).loc Kernel.main_arg1))
      ∧ r.2.sem = fun _ => 0 := by
  rw [same_defs]
  exact frame_of (F := Bits) m g hl h

/-- The reference's frame, whatever its table holds. -/
theorem frame_reference (m : (ℓ : Loc ReferenceIdeal.nD ReferenceIdeal.τ ReferenceIdeal.sig) → Buf (Elt Ideal) ℓ)
    (g : Dev ReferenceIdeal.nD → PrngReg) :
    θ_run (ReferenceIdeal.defs (F := Ideal)) (onTc (τ := ReferenceIdeal.τ) (ReferenceIdeal.main (F := Ideal))) ⟨m, fun _ => 0, g⟩ fun r =>
      (∀ c : Dev ReferenceIdeal.nD,
        r.2.mem ((c.tc : Thread ReferenceIdeal.nD ReferenceIdeal.τ).loc ReferenceIdeal.main_arg0) = m ((c.tc : Thread ReferenceIdeal.nD ReferenceIdeal.τ).loc ReferenceIdeal.main_arg0)
        ∧ r.2.mem ((c.tc : Thread ReferenceIdeal.nD ReferenceIdeal.τ).loc ReferenceIdeal.main_arg1) = m ((c.tc : Thread ReferenceIdeal.nD ReferenceIdeal.τ).loc ReferenceIdeal.main_arg1))
      ∧ r.2.sem = fun _ => 0 :=
  (θ_run ReferenceIdeal.defs _ _).mono (fun r h => ⟨fun c => (h c).2, sem_eq_zero_of_no_sems (by decide) r.2⟩)
    (ReferenceIdeal.Value.run (F := Ideal) m g)

/-- The kernel on the rows of an array leaves the rows of what the reference makes of the array. -/
theorem rows_of_reference {lit : Fin 4 → BitVec 32} (hl : Permutes lit)
    (m : (ℓ : Loc KernelIdeal.nD KernelIdeal.τ KernelIdeal.sig) → Buf (Elt Ideal) ℓ) (g : Dev KernelIdeal.nD → PrngReg)
    (m' : (ℓ : Loc ReferenceIdeal.nD ReferenceIdeal.τ ReferenceIdeal.sig) → Buf (Elt Ideal) ℓ) (g' : Dev ReferenceIdeal.nD → PrngReg)
    (h : ∀ c : Dev KernelIdeal.nD, Says lit (m ((c.tc : Thread KernelIdeal.nD KernelIdeal.τ).loc KernelIdeal.main_arg1)))
    (hm : ∀ c : Dev KernelIdeal.nD,
      m ((c.tc : Thread KernelIdeal.nD KernelIdeal.τ).loc KernelIdeal.main_arg0)
          = rowOf c (m' (((0 : Dev ReferenceIdeal.nD).tc : Thread ReferenceIdeal.nD ReferenceIdeal.τ).loc ReferenceIdeal.main_arg0))
      ∧ m ((c.tc : Thread KernelIdeal.nD KernelIdeal.τ).loc KernelIdeal.main_arg1)
          = m' (((0 : Dev ReferenceIdeal.nD).tc : Thread ReferenceIdeal.nD ReferenceIdeal.τ).loc ReferenceIdeal.main_arg1)) :
    ∃ v0 : Buf (Elt Ideal) (((0 : Dev ReferenceIdeal.nD).tc : Thread ReferenceIdeal.nD ReferenceIdeal.τ).loc ReferenceIdeal.main_v9),
      θ_run (KernelIdeal.defs (F := Ideal)) (onTc (τ := KernelIdeal.τ) (KernelIdeal.main (F := Ideal))) ⟨m, fun _ => 0, g⟩ (fun r =>
        ∀ c : Dev KernelIdeal.nD,
          r.2.mem ((c.tc : Thread KernelIdeal.nD KernelIdeal.τ).loc KernelIdeal.main_v1) = rowOf c v0
          ∧ r.2.mem ((c.tc : Thread KernelIdeal.nD KernelIdeal.τ).loc KernelIdeal.main_arg0) = m ((c.tc : Thread KernelIdeal.nD KernelIdeal.τ).loc KernelIdeal.main_arg0)
          ∧ r.2.mem ((c.tc : Thread KernelIdeal.nD KernelIdeal.τ).loc KernelIdeal.main_arg1) = m ((c.tc : Thread KernelIdeal.nD KernelIdeal.τ).loc KernelIdeal.main_arg1))
      ∧ θ_run (ReferenceIdeal.defs (F := Ideal)) (onTc (τ := ReferenceIdeal.τ) (ReferenceIdeal.main (F := Ideal))) ⟨m', fun _ => 0, g'⟩ (fun r =>
        r.2.mem (((0 : Dev ReferenceIdeal.nD).tc : Thread ReferenceIdeal.nD ReferenceIdeal.τ).loc ReferenceIdeal.main_v9) = v0
        ∧ r.2.mem (((0 : Dev ReferenceIdeal.nD).tc : Thread ReferenceIdeal.nD ReferenceIdeal.τ).loc ReferenceIdeal.main_arg0)
            = m' (((0 : Dev ReferenceIdeal.nD).tc : Thread ReferenceIdeal.nD ReferenceIdeal.τ).loc ReferenceIdeal.main_arg0)
        ∧ r.2.mem (((0 : Dev ReferenceIdeal.nD).tc : Thread ReferenceIdeal.nD ReferenceIdeal.τ).loc ReferenceIdeal.main_arg1)
            = m' (((0 : Dev ReferenceIdeal.nD).tc : Thread ReferenceIdeal.nD ReferenceIdeal.τ).loc ReferenceIdeal.main_arg1)) := by
  obtain ⟨σ, hσ⟩ := hl.exists_perm
  have ht : IsTable (F := Ideal) σ m := fun c i => ((h c).entry i).trans (hσ (i 0))
  refine ⟨Ref.result σ (m' (((0 : Dev ReferenceIdeal.nD).tc : Thread ReferenceIdeal.nD ReferenceIdeal.τ).loc ReferenceIdeal.main_arg0)), ?_, ?_⟩
  · exact (θ_run KernelIdeal.defs _ _).mono
      (fun _ hr c => ⟨(hr.1 c).1.trans ((hm (src σ c)).1.trans (row_result σ c _).symm), (hr.1 c).2⟩) (run_values (F := Ideal) σ m g ht)
  · exact (θ_run ReferenceIdeal.defs _ _).mono (fun _ hr => hr 0) (Ref.run_table σ m' g' fun c i => by
      obtain rfl : c = 0 := Subsingleton.elim _ _
      exact (congrFun (hm 0).2 i).symm.trans (ht 0 i))

set_option maxRecDepth 4000 in
set_option maxHeartbeats 4000000 in
/-- Every claim: 24 frames of the kernel, 24 of its ideal form, 25 of the reference, and 24 equalities. -/
theorem claim : Cert.Claim := by
  refine ⟨Kernel.Gen.facts, KernelIdeal.Gen.facts, ReferenceIdeal.Gen.facts, ?_⟩
  iterate 48 refine ⟨⟨⟩, ?_⟩
  iterate 24 refine ⟨fun m g h => frame_kernel (by decide) m g h, ?_⟩
  iterate 24 refine ⟨fun m g h => frame_of (F := Ideal) m g (by decide) h, ?_⟩
  iterate 25 refine ⟨fun m g _ => frame_reference m g, ?_⟩
  refine ⟨trivial, ?_⟩
  iterate 23 refine ⟨fun m g m' g' h hm => rows_of_reference (by decide) m g m' g' h hm, ?_⟩
  exact fun m g m' g' h hm => rows_of_reference (by decide) m g m' g' h hm

end Cert.Proof

end
